-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x200 : Shape := ⟨2, ![16384, 200]⟩
abbrev S17x10 : Shape := ⟨2, ![17, 10]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : FVec F S17x10 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 17#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Kernel.lean ====
abbrev S16384x200 : Shape := ⟨2, ![16384, 200]⟩
abbrev S17x10 : Shape := ⟨2, ![17, 10]⟩
abbrev S3276800 : Shape := ⟨1, ![3276800]⟩
abbrev S170 : Shape := ⟨1, ![170]⟩
abbrev S32768000 : Shape := ⟨1, ![32768000]⟩
abbrev S2048 : Shape := ⟨1, ![2048]⟩
abbrev S20480 : Shape := ⟨1, ![20480]⟩
abbrev S_ : Shape := ⟨0, ![]⟩
abbrev S16 : Shape := ⟨1, ![16]⟩
abbrev S16384x200x10 : Shape := ⟨3, ![16384, 200, 10]⟩

abbrev nBuf : Table → Nat
  | .hbm => 6
  | .local .scVector .vmem => 3
  | _ => 0

abbrev bufTy : (tb : Table) → Fin (nBuf tb) → BufTy
  | .hbm, ⟨0, _⟩ => ⟨S16384x200, .i32⟩
  | .hbm, ⟨1, _⟩ => ⟨S17x10, .f32⟩
  | .hbm, ⟨2, _⟩ => ⟨S3276800, .i32⟩
  | .hbm, ⟨3, _⟩ => ⟨S170, .f32⟩
  | .hbm, ⟨4, _⟩ => ⟨S32768000, .f32⟩
  | .hbm, ⟨5, _⟩ => ⟨S16384x200x10, .f32⟩
  | .local .scVector .vmem, ⟨0, _⟩ => ⟨S170, .f32⟩
  | .local .scVector .vmem, ⟨1, _⟩ => ⟨S2048, .i32⟩
  | .local .scVector .vmem, ⟨2, _⟩ => ⟨S20480, .f32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c50_i32 : BitVec 32 := 50#32
  let v3 : BitVec 32 := Scalar.addi c0_i32_0 c50_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_0 : BitVec 32 := 0#32
  let c1_i32 : BitVec 32 := 1#32
  let arg8 : BitVec 32 := Scf.iv c0_i32_0 c1_i32 k0_t1
  let c2048_i32 : BitVec 32 := 2048#32
  let v4 : BitVec 32 := Scalar.muli arg8 c2048_i32
  let v5 : BitVec 32 := Scalar.addi v2 v4
  ![v5.toNat]
@[reducible] def k0_t2_loop : Scf.Loop 32 :=
  let c0_i32_3 : BitVec 32 := 0#32
  let c128_i32 : BitVec 32 := 128#32
  let v6 : BitVec 32 := Scalar.addi c0_i32_3 c128_i32
  let c1_i32_4 : BitVec 32 := 1#32
  ⟨c0_i32_3, v6, c1_i32_4⟩

def k0_chk1 (v40 : IVec S16 32) : Prop :=
  (∀ a x, ((![v40] : Fin 1 → IVec S16 32) a x).toNat < S2048.size a)
theorem k0_idx1_inb : ∀ (v40 : IVec S16 32) (k0_hw1 : k0_chk1 v40), ∀ a x, ((![v40] : Fin 1 → IVec S16 32) a x).toNat < S2048.size a := fun v40 k0_hw1 => k0_hw1

def k0_chk2 (v44 : IVec S16 32) : Prop :=
  (∀ a x, ((![v44] : Fin 1 → IVec S16 32) a x).toNat < S170.size a)
theorem k0_idx2_inb : ∀ (v44 : IVec S16 32) (k0_hw2 : k0_chk2 v44), ∀ a x, ((![v44] : Fin 1 → IVec S16 32) a x).toNat < S170.size a := fun v44 k0_hw2 => k0_hw2
def k0_off2 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c160_i32 : BitVec 32 := 160#32
  let v46 : BitVec 32 := Scalar.muli arg9 c160_i32
  let c0_i32_16 : BitVec 32 := 0#32
  let v47 : BitVec 32 := Scalar.addi v46 c0_i32_16
  let v48 : Index := Scalar.indexCast v47
  ![v48.toNat]

def k0_chk3 (v80 : IVec S16 32) : Prop :=
  (∀ a x, ((![v80] : Fin 1 → IVec S16 32) a x).toNat < S2048.size a)
theorem k0_idx3_inb : ∀ (v80 : IVec S16 32) (k0_hw3 : k0_chk3 v80), ∀ a x, ((![v80] : Fin 1 → IVec S16 32) a x).toNat < S2048.size a := fun v80 k0_hw3 => k0_hw3

def k0_chk4 (v84 : IVec S16 32) : Prop :=
  (∀ a x, ((![v84] : Fin 1 → IVec S16 32) a x).toNat < S170.size a)
theorem k0_idx4_inb : ∀ (v84 : IVec S16 32) (k0_hw4 : k0_chk4 v84), ∀ a x, ((![v84] : Fin 1 → IVec S16 32) a x).toNat < S170.size a := fun v84 k0_hw4 => k0_hw4
def k0_off3 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c160_i32_27 : BitVec 32 := 160#32
  let v86 : BitVec 32 := Scalar.muli arg9 c160_i32_27
  let c16_i32_28 : BitVec 32 := 16#32
  let v87 : BitVec 32 := Scalar.addi v86 c16_i32_28
  let v88 : Index := Scalar.indexCast v87
  ![v88.toNat]

def k0_chk5 (v120 : IVec S16 32) : Prop :=
  (∀ a x, ((![v120] : Fin 1 → IVec S16 32) a x).toNat < S2048.size a)
theorem k0_idx5_inb : ∀ (v120 : IVec S16 32) (k0_hw5 : k0_chk5 v120), ∀ a x, ((![v120] : Fin 1 → IVec S16 32) a x).toNat < S2048.size a := fun v120 k0_hw5 => k0_hw5

def k0_chk6 (v124 : IVec S16 32) : Prop :=
  (∀ a x, ((![v124] : Fin 1 → IVec S16 32) a x).toNat < S170.size a)
theorem k0_idx6_inb : ∀ (v124 : IVec S16 32) (k0_hw6 : k0_chk6 v124), ∀ a x, ((![v124] : Fin 1 → IVec S16 32) a x).toNat < S170.size a := fun v124 k0_hw6 => k0_hw6
def k0_off4 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c160_i32_38 : BitVec 32 := 160#32
  let v126 : BitVec 32 := Scalar.muli arg9 c160_i32_38
  let c32_i32_39 : BitVec 32 := 32#32
  let v127 : BitVec 32 := Scalar.addi v126 c32_i32_39
  let v128 : Index := Scalar.indexCast v127
  ![v128.toNat]

def k0_chk7 (v160 : IVec S16 32) : Prop :=
  (∀ a x, ((![v160] : Fin 1 → IVec S16 32) a x).toNat < S2048.size a)
theorem k0_idx7_inb : ∀ (v160 : IVec S16 32) (k0_hw7 : k0_chk7 v160), ∀ a x, ((![v160] : Fin 1 → IVec S16 32) a x).toNat < S2048.size a := fun v160 k0_hw7 => k0_hw7

def k0_chk8 (v164 : IVec S16 32) : Prop :=
  (∀ a x, ((![v164] : Fin 1 → IVec S16 32) a x).toNat < S170.size a)
theorem k0_idx8_inb : ∀ (v164 : IVec S16 32) (k0_hw8 : k0_chk8 v164), ∀ a x, ((![v164] : Fin 1 → IVec S16 32) a x).toNat < S170.size a := fun v164 k0_hw8 => k0_hw8
def k0_off5 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c160_i32_49 : BitVec 32 := 160#32
  let v166 : BitVec 32 := Scalar.muli arg9 c160_i32_49
  let c48_i32_50 : BitVec 32 := 48#32
  let v167 : BitVec 32 := Scalar.addi v166 c48_i32_50
  let v168 : Index := Scalar.indexCast v167
  ![v168.toNat]

def k0_chk9 (v200 : IVec S16 32) : Prop :=
  (∀ a x, ((![v200] : Fin 1 → IVec S16 32) a x).toNat < S2048.size a)
theorem k0_idx9_inb : ∀ (v200 : IVec S16 32) (k0_hw9 : k0_chk9 v200), ∀ a x, ((![v200] : Fin 1 → IVec S16 32) a x).toNat < S2048.size a := fun v200 k0_hw9 => k0_hw9

def k0_chk10 (v204 : IVec S16 32) : Prop :=
  (∀ a x, ((![v204] : Fin 1 → IVec S16 32) a x).toNat < S170.size a)
theorem k0_idx10_inb : ∀ (v204 : IVec S16 32) (k0_hw10 : k0_chk10 v204), ∀ a x, ((![v204] : Fin 1 → IVec S16 32) a x).toNat < S170.size a := fun v204 k0_hw10 => k0_hw10
def k0_off6 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c160_i32_60 : BitVec 32 := 160#32
  let v206 : BitVec 32 := Scalar.muli arg9 c160_i32_60
  let c64_i32_61 : BitVec 32 := 64#32
  let v207 : BitVec 32 := Scalar.addi v206 c64_i32_61
  let v208 : Index := Scalar.indexCast v207
  ![v208.toNat]

def k0_chk11 (v240 : IVec S16 32) : Prop :=
  (∀ a x, ((![v240] : Fin 1 → IVec S16 32) a x).toNat < S2048.size a)
theorem k0_idx11_inb : ∀ (v240 : IVec S16 32) (k0_hw11 : k0_chk11 v240), ∀ a x, ((![v240] : Fin 1 → IVec S16 32) a x).toNat < S2048.size a := fun v240 k0_hw11 => k0_hw11

def k0_chk12 (v244 : IVec S16 32) : Prop :=
  (∀ a x, ((![v244] : Fin 1 → IVec S16 32) a x).toNat < S170.size a)
theorem k0_idx12_inb : ∀ (v244 : IVec S16 32) (k0_hw12 : k0_chk12 v244), ∀ a x, ((![v244] : Fin 1 → IVec S16 32) a x).toNat < S170.size a := fun v244 k0_hw12 => k0_hw12
def k0_off7 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c160_i32_71 : BitVec 32 := 160#32
  let v246 : BitVec 32 := Scalar.muli arg9 c160_i32_71
  let c80_i32_72 : BitVec 32 := 80#32
  let v247 : BitVec 32 := Scalar.addi v246 c80_i32_72
  let v248 : Index := Scalar.indexCast v247
  ![v248.toNat]

def k0_chk13 (v280 : IVec S16 32) : Prop :=
  (∀ a x, ((![v280] : Fin 1 → IVec S16 32) a x).toNat < S2048.size a)
theorem k0_idx13_inb : ∀ (v280 : IVec S16 32) (k0_hw13 : k0_chk13 v280), ∀ a x, ((![v280] : Fin 1 → IVec S16 32) a x).toNat < S2048.size a := fun v280 k0_hw13 => k0_hw13

def k0_chk14 (v284 : IVec S16 32) : Prop :=
  (∀ a x, ((![v284] : Fin 1 → IVec S16 32) a x).toNat < S170.size a)
theorem k0_idx14_inb : ∀ (v284 : IVec S16 32) (k0_hw14 : k0_chk14 v284), ∀ a x, ((![v284] : Fin 1 → IVec S16 32) a x).toNat < S170.size a := fun v284 k0_hw14 => k0_hw14
def k0_off8 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c160_i32_82 : BitVec 32 := 160#32
  let v286 : BitVec 32 := Scalar.muli arg9 c160_i32_82
  let c96_i32_83 : BitVec 32 := 96#32
  let v287 : BitVec 32 := Scalar.addi v286 c96_i32_83
  let v288 : Index := Scalar.indexCast v287
  ![v288.toNat]

def k0_chk15 (v320 : IVec S16 32) : Prop :=
  (∀ a x, ((![v320] : Fin 1 → IVec S16 32) a x).toNat < S2048.size a)
theorem k0_idx15_inb : ∀ (v320 : IVec S16 32) (k0_hw15 : k0_chk15 v320), ∀ a x, ((![v320] : Fin 1 → IVec S16 32) a x).toNat < S2048.size a := fun v320 k0_hw15 => k0_hw15

def k0_chk16 (v324 : IVec S16 32) : Prop :=
  (∀ a x, ((![v324] : Fin 1 → IVec S16 32) a x).toNat < S170.size a)
theorem k0_idx16_inb : ∀ (v324 : IVec S16 32) (k0_hw16 : k0_chk16 v324), ∀ a x, ((![v324] : Fin 1 → IVec S16 32) a x).toNat < S170.size a := fun v324 k0_hw16 => k0_hw16
def k0_off9 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c160_i32_93 : BitVec 32 := 160#32
  let v326 : BitVec 32 := Scalar.muli arg9 c160_i32_93
  let c112_i32_94 : BitVec 32 := 112#32
  let v327 : BitVec 32 := Scalar.addi v326 c112_i32_94
  let v328 : Index := Scalar.indexCast v327
  ![v328.toNat]

def k0_chk17 (v360 : IVec S16 32) : Prop :=
  (∀ a x, ((![v360] : Fin 1 → IVec S16 32) a x).toNat < S2048.size a)
theorem k0_idx17_inb : ∀ (v360 : IVec S16 32) (k0_hw17 : k0_chk17 v360), ∀ a x, ((![v360] : Fin 1 → IVec S16 32) a x).toNat < S2048.size a := fun v360 k0_hw17 => k0_hw17

def k0_chk18 (v364 : IVec S16 32) : Prop :=
  (∀ a x, ((![v364] : Fin 1 → IVec S16 32) a x).toNat < S170.size a)
theorem k0_idx18_inb : ∀ (v364 : IVec S16 32) (k0_hw18 : k0_chk18 v364), ∀ a x, ((![v364] : Fin 1 → IVec S16 32) a x).toNat < S170.size a := fun v364 k0_hw18 => k0_hw18
def k0_off10 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c160_i32_105 : BitVec 32 := 160#32
  let v366 : BitVec 32 := Scalar.muli arg9 c160_i32_105
  let c128_i32_106 : BitVec 32 := 128#32
  let v367 : BitVec 32 := Scalar.addi v366 c128_i32_106
  let v368 : Index := Scalar.indexCast v367
  ![v368.toNat]

def k0_chk19 (v400 : IVec S16 32) : Prop :=
  (∀ a x, ((![v400] : Fin 1 → IVec S16 32) a x).toNat < S2048.size a)
theorem k0_idx19_inb : ∀ (v400 : IVec S16 32) (k0_hw19 : k0_chk19 v400), ∀ a x, ((![v400] : Fin 1 → IVec S16 32) a x).toNat < S2048.size a := fun v400 k0_hw19 => k0_hw19

def k0_chk20 (v404 : IVec S16 32) : Prop :=
  (∀ a x, ((![v404] : Fin 1 → IVec S16 32) a x).toNat < S170.size a)
theorem k0_idx20_inb : ∀ (v404 : IVec S16 32) (k0_hw20 : k0_chk20 v404), ∀ a x, ((![v404] : Fin 1 → IVec S16 32) a x).toNat < S170.size a := fun v404 k0_hw20 => k0_hw20
def k0_off11 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c160_i32_116 : BitVec 32 := 160#32
  let v406 : BitVec 32 := Scalar.muli arg9 c160_i32_116
  let c144_i32_117 : BitVec 32 := 144#32
  let v407 : BitVec 32 := Scalar.addi v406 c144_i32_117
  let v408 : Index := Scalar.indexCast v407
  ![v408.toNat]
def k0_off12 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_0 : BitVec 32 := 0#32
  let c1_i32 : BitVec 32 := 1#32
  let arg8 : BitVec 32 := Scf.iv c0_i32_0 c1_i32 k0_t1
  let c2048_i32 : BitVec 32 := 2048#32
  let v4 : BitVec 32 := Scalar.muli arg8 c2048_i32
  let v5 : BitVec 32 := Scalar.addi v2 v4
  let c10_i32 : BitVec 32 := 10#32
  let v7 : BitVec 32 := Scalar.muli v5 c10_i32
  ![v7.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S17x10 : Shape := ⟨2, ![17, 10]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x10 : Shape := ⟨3, ![16384, 200, 10]⟩

abbrev nBuf : Space → Nat
  | .hbm => 25
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S17x10, .f32⟩
  | .hbm, ⟨2, _⟩ => ⟨S_, .i32⟩
  | .hbm, ⟨3, _⟩ => ⟨S16384x200, .i32⟩
  | .hbm, ⟨4, _⟩ => ⟨S16384x200, .i1⟩
  | .hbm, ⟨5, _⟩ => ⟨S_, .i32⟩
  | .hbm, ⟨6, _⟩ => ⟨S16384x200, .i32⟩
  | .hbm, ⟨7, _⟩ => ⟨S16384x200, .i32⟩
  | .hbm, ⟨8, _⟩ => ⟨S16384x200, .i32⟩
  | .hbm, ⟨9, _⟩ => ⟨S16384x200x1, .i32⟩
  | .hbm, ⟨10, _⟩ => ⟨S1, .i32⟩
  | .hbm, ⟨11, _⟩ => ⟨S_, .i32⟩
  | .hbm, ⟨12, _⟩ => ⟨S16384x200x1, .i32⟩
  | .hbm, ⟨13, _⟩ => ⟨S16384x200x1, .i1⟩
  | .hbm, ⟨14, _⟩ => ⟨S1x1x1, .i32⟩
  | .hbm, ⟨15, _⟩ => ⟨S16384x200x1, .i32⟩
  | .hbm, ⟨16, _⟩ => ⟨S16384x200x1, .i1⟩
  | .hbm, ⟨17, _⟩ => ⟨S16384x200x1, .i1⟩
  | .hbm, ⟨18, _⟩ => ⟨S_, .i1⟩
  | .hbm, ⟨19, _⟩ => ⟨S16384x200, .i1⟩
  | .hbm, ⟨20, _⟩ => ⟨S16384x200x10, .f32⟩
  | .hbm, ⟨21, _⟩ => ⟨S16384x200x10, .i1⟩
  | .hbm, ⟨22, _⟩ => ⟨S_, .f32⟩
  | .hbm, ⟨23, _⟩ => ⟨S16384x200x10, .f32⟩
  | .hbm, ⟨24, _⟩ => ⟨S16384x200x10, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Lanes.lean ====
/-
  The sixteen-lane index arithmetic of one gather-and-store step. Step `v` (of ten) of trip `t` of the inner loop
  writes the sixteen output words `160 t + 16 v + x`. The kernel computes for lane `x` the row `(x + 16 v) / 10` and
  the column `(x + 16 v) % 10` by floored division on words, reads the index word `16 t + (x + 16 v) / 10`, and reads the table at
  `10 * index + (x + 16 v) % 10`. Here: the words it computes hold those naturals.
-/
module

public import proofs.«01_k».proof.Proof.Gen.KernelIdeal.Skeleton

@[expose] public section

noncomputable section

namespace Cert.Proof.Lanes

open Cert.KernelIdeal Cert.KernelIdeal.Gen
open Idealize.ShloMosaic

/-- The lane numbers `0, …, 15`, as the kernel makes them. -/
abbrev lanes : IVec S16 32 := iota .scVector S16 32 [0] iota_S16_d0_w32_scVector

/-- Sixteen times the trip's number: the first of the sixteen index words trip `t` reads. -/
abbrev base (t : Fin k0_t2_loop.trips) : BitVec 32 := Scalar.muli (Scf.iv 0#32 1#32 t) 16#32

/-- The inner loop runs 128 trips. -/
theorem trips_eq : k0_t2_loop.trips = 128 := by decide

/-- The base word of trip `t` holds `16 t`. -/
theorem base_toNat (t : Fin k0_t2_loop.trips) : (base t).toNat = 16 * t.val := by
  have ht : t.val < 128 := trips_eq ▸ t.isLt
  simp only [base, Scalar.muli, Scf.iv, IntOp.muli, IntOp.addi, BitVec.toNat_mul, BitVec.toNat_add, BitVec.toNat_ofNat]
  omega

/-- The vector `w` names, lane by lane, the index words of step `v` of trip `t`. -/
def IsRow (v : ℕ) (t : Fin k0_t2_loop.trips) (w : IVec S16 32) : Prop := ∀ x, (w x).toNat = 16 * t.val + ((x 0).val + 16 * v) / 10

/-- From index words `e` below 17, `A e` names the table words of step `v`. -/
def IsCol (v : ℕ) (A : IVec S16 32 → IVec S16 32) : Prop :=
  ∀ e x, (e x).toNat < 17 → (A e x).toNat = (e x).toNat * 10 + ((x 0).val + 16 * v) % 10

/-- A vector that is the base word plus a closed row number is a row vector. -/
theorem IsRow.of_add {v : ℕ} (hv : v < 10) (t : Fin k0_t2_loop.trips) {w r : IVec S16 32} (hw : ∀ x, w x = base t + r x)
    (hr : ∀ x, r x = BitVec.ofNat 32 (((x 0).val + 16 * v) / 10)) : IsRow v t w := by
  intro x
  have ht : t.val < 128 := trips_eq ▸ t.isLt
  have hx : (x 0).val < 16 := (x 0).isLt
  rw [hw, hr, BitVec.toNat_add, base_toNat, BitVec.toNat_ofNat]
  omega

/-- A vector that is ten times the index word plus a closed column number names the table words. -/
theorem IsCol.of_add {v : ℕ} {A : IVec S16 32 → IVec S16 32} {r : IVec S16 32} (hw : ∀ e x, A e x = e x * 10#32 + r x)
    (hr : ∀ x, r x = BitVec.ofNat 32 (((x 0).val + 16 * v) % 10)) : IsCol v A := by
  intro e x he
  rw [hw, hr, BitVec.toNat_add, BitVec.toNat_mul, BitVec.toNat_ofNat, BitVec.toNat_ofNat]
  omega

end Cert.Proof.Lanes

end
-- ==== Proof.Value.lean ====
/-
  The value of the lookup on flat arrays. The table's 17 rows of 10 words lie one after the other in 170 words; the word
  at position `p` of the result is word `10 * idx[p / 10] + p % 10` of the table. Here: that function (`looked`), that
  one gather-and-store step extends the part of it already in the result's scratch buffer by sixteen words
  (`filled_step`), and that the words of a chunk of the index list give the words of a chunk of the result
  (`looked_chunk`).
-/
module

public import proofs.«01_k».proof.Proof.Lanes

@[expose] public section

noncomputable section

namespace Cert.Proof.Value

open Cert.KernelIdeal
open Idealize.ShloMosaic
open Cert.Proof.Lanes

/-- Position `k` of an array of `n` words, as its index; the array has a word. -/
def pos (n : ℕ) (hn : 0 < n) (k : ℕ) : (⟨1, ![n]⟩ : Shape).Idx := Shape.ofLane (d := ![n]) ⟨k % n, Nat.mod_lt _ hn⟩

/-- Two indices of a one-axis array with the same position are the same. -/
theorem ext_pos {n : ℕ} {x y : (⟨1, ![n]⟩ : Shape).Idx} (h : (x 0).val = (y 0).val) : x = y := by
  funext a; obtain rfl : a = 0 := Fin.eq_zero a; exact Fin.ext h

/-- The index of position `k < n` has position `k`. -/
theorem pos_val {n : ℕ} (hn : 0 < n) {k : ℕ} (hk : k < n) : ((pos n hn k) 0).val = k := Nat.mod_eq_of_lt hk

/-- An index with position `k` is the index of position `k`. -/
theorem eq_pos {n : ℕ} (hn : 0 < n) {x : (⟨1, ![n]⟩ : Shape).Idx} {k : ℕ} (h : (x 0).val = k) : x = pos n hn k := by
  refine ext_pos ?_
  have hx : (x 0).val < n := (x 0).isLt
  rw [pos_val hn (h ▸ hx), h]

/-- The lookup on flat arrays: word `p` of the result is word `10 * idx[p / 10] + p % 10` of the table. -/
def looked {α : Type} (n m : ℕ) (hn : 0 < n) (tab : S170.Idx → α) (idx : (⟨1, ![n]⟩ : Shape).Idx → BitVec 32) :
    (⟨1, ![m]⟩ : Shape).Idx → α :=
  fun p => tab (pos 170 (by decide) ((idx (pos n hn ((p 0).val / 10))).toNat * 10 + (p 0).val % 10))

/-- The lookup of one chunk of 2048 index words, into 20480 words. -/
abbrev lookedChunk {α : Type} (tab : S170.Idx → α) (idx : S2048.Idx → BitVec 32) : S20480.Idx → α := looked 2048 20480 (by decide) tab idx

/-- The lookup of the whole index list. -/
abbrev lookedAll {α : Type} (tab : S170.Idx → α) (idx : S3276800.Idx → BitVec 32) : S32768000.Idx → α :=
  looked 3276800 32768000 (by decide) tab idx

/-- The first `n` words of the buffer hold the chunk's lookup. -/
def Filled {α : Type} (tab : S170.Idx → α) (idx : S2048.Idx → BitVec 32) (n : ℕ) (f : S20480.Idx → α) : Prop :=
  ∀ p, (p 0).val < n → f p = lookedChunk tab idx p

/-- The row vector of step `v` names words of the chunk. -/
theorem row_lt {v : ℕ} (hv : v < 10) {t : Fin k0_t2_loop.trips} {w : IVec S16 32} (hw : IsRow v t w) :
    ∀ a x, ((![w] : Fin 1 → IVec S16 32) a x).toNat < S2048.size a := by
  intro a x
  obtain rfl : a = 0 := Fin.eq_zero a
  have ht : t.val < 128 := trips_eq ▸ t.isLt
  have hx : (x 0).val < 16 := (x 0).isLt
  show (w x).toNat < 2048
  rw [hw x]; omega

/-- The column vector of a step, from index words below 17, names words of the table. -/
theorem col_lt {v : ℕ} {A : IVec S16 32 → IVec S16 32} (hA : IsCol v A) {e : IVec S16 32} (he : ∀ x, (e x).toNat < 17) :
    ∀ a x, ((![A e] : Fin 1 → IVec S16 32) a x).toNat < S170.size a := by
  intro a x
  obtain rfl : a = 0 := Fin.eq_zero a
  show (A e x).toNat < 170
  rw [hA e x (he x)]
  have := he x
  omega

/-- One gather-and-store step: sixteen more words of the result. -/
theorem filled_step {F : FTy → Type} {v : ℕ} (hv : v < 10) {t : Fin k0_t2_loop.trips} {w : IVec S16 32} (hw : IsRow v t w)
    {A : IVec S16 32 → IVec S16 32} (hA : IsCol v A) {tab : Vec F S170 .f32} {idx : Vec F S2048 .i32}
    (hidx : ∀ y, BitVec.toNat (idx y) < 17)
    (hi : ∀ a x, ((![w] : Fin 1 → IVec S16 32) a x).toNat < S2048.size a)
    (hj : ∀ a x, ((![A (loadIdx idx ![w] hi)] : Fin 1 → IVec S16 32) a x).toNat < S170.size a)
    {off : Fin 1 → ℕ} (hoff : off = ![160 * t.val + 16 * v]) (inb : S20480.Slices off S16)
    {f : Vec F S20480 .f32} (hf : Filled tab idx (160 * t.val + 16 * v) f) :
    Filled tab idx (160 * t.val + 16 * (v + 1))
      (updateSlice f (loadIdx (F := F) tab ![A (loadIdx idx ![w] hi)] hj) off inb) := by
  subst hoff
  intro p hp
  have ht : t.val < 128 := trips_eq ▸ t.isLt
  unfold updateSlice
  split
  · next hin =>
    have h0 := hin 0
    change 160 * t.val + 16 * v ≤ (p 0).val ∧ (p 0).val < 160 * t.val + 16 * v + 16 at h0
    obtain ⟨h0, h1⟩ := h0
    unfold loadIdx lookedChunk looked
    refine congrArg tab (eq_pos _ ?_)
    set x : S16.Idx := fun b => ⟨(p (b.cast inb.1)).val - (![160 * t.val + 16 * v] : Fin 1 → ℕ) (b.cast inb.1), _⟩ with hx
    have hx0 : (x 0).val = (p 0).val - (160 * t.val + 16 * v) := rfl
    show (A (fun x => idx (idxAt ![w] hi x)) x).toNat = _
    rw [hA _ x (hidx _), hx0]
    have he : idxAt ![w] hi x = pos 2048 (by decide) ((p 0).val / 10) := by
      refine eq_pos _ ?_
      show (w x).toNat = _
      rw [hw x, hx0]
      omega
    rw [he]
    congr 1
    omega
  · next hin =>
    refine hf p ?_
    by_contra hcon
    refine hin fun a => ?_
    obtain rfl : a = 0 := Fin.eq_zero a
    show 160 * t.val + 16 * v ≤ (p 0).val ∧ (p 0).val < 160 * t.val + 16 * v + 16
    omega

/-- A chunk of the index list, from word `o` on, gives a chunk of the result, from word `10 o` on. -/
theorem looked_chunk {α : Type} (tab : S170.Idx → α) (idx : S3276800.Idx → BitVec 32) (c : S2048.Idx → BitVec 32) (o : ℕ)
    (ho : o + 2048 ≤ 3276800) (hc : ∀ y, c y = idx (pos 3276800 (by decide) (o + (y 0).val))) (p : S20480.Idx) :
    lookedChunk tab c p = lookedAll tab idx (pos 32768000 (by decide) (10 * o + (p 0).val)) := by
  have hp : (p 0).val < 20480 := (p 0).isLt
  unfold lookedChunk lookedAll looked
  rw [hc, pos_val (n := 2048) _ (by omega), pos_val (n := 32768000) _ (by omega),
    show (10 * o + (p 0).val) / 10 = o + (p 0).val / 10 by omega, show (10 * o + (p 0).val) % 10 = (p 0).val % 10 by omega]

end Cert.Proof.Value

end
-- ==== Proof.Setup.lean ====
/-
  The launch as the SparseCore launch theorem takes it: the program, the ghost state (the handshakes' rounds, the
  transfers' counters) and the names of the arrays, the tile's buffers and its semaphores' cells.
-/
module

public import proofs.«01_k».proof.Defs
public import proofs.«01_k».proof.Proof.Value
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and none is scoped; no buffer of a SparseCore is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UU : Type := UH × Counters

abbrev MM (F : FTy → Type) : Type := MT nD τ sig (HIx 1) (Elt F) ℕ UU ℕ

abbrev EH : Emb UH (MM F) := embL

/-! ## The arrays, the tile's buffers -/

/-- The two arguments, the flat index list and table, the flat result, the result, as locations of device `d`. -/
abbrev a0Loc (d : Dev nD) : Loc nD τ sig := (SparseCore.T d).loc main_arg0
abbrev a1Loc (d : Dev nD) : Loc nD τ sig := (SparseCore.T d).loc main_arg1
abbrev iLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

/-- The three HBM arrays as a tile addresses them. -/
abbrev tV : Memref sig .scVector .hbm S170 .f32 := Memref.whole main_v1_scv
abbrev iV : Memref sig .scVector .hbm S3276800 .i32 := Memref.whole main_v0_scv
abbrev oV : Memref sig .scVector .hbm S32768000 .f32 := Memref.whole main_v2_scv
/-- A tile's scratch: the table, a chunk of the index list, a chunk of the result. -/
abbrev sT : Memref sig .scVector .vmem S170 .f32 := Memref.whole cc0_scratch0
abbrev sI : Memref sig .scVector .vmem S2048 .i32 := Memref.whole cc0_scratch1
abbrev sO : Memref sig .scVector .vmem S20480 .f32 := Memref.whole cc0_scratch2

abbrev cV (L : grid0.Coords) : Fin τ.nSC := (L 0).castLE hcore0
abbrev jV (L : grid0.Coords) : Fin τ.nSub := (L 1).castLE hsub0
/-- The tile at coordinates `L` of device `d`, as a thread. -/
abbrev thr (d : Dev nD) (L : grid0.Coords) : Thread nD τ := V d (cV L) (jV L)

end Cert.Proof.Lookup

end
-- ==== Proof.Step.lean ====
/-
  One trip of the inner loop: ten gather-and-store steps. A step reads sixteen index words off the tile's chunk of the
  index list, reads the sixteen table words they name, and stores them in the tile's chunk of the result. The rule of a
  step (`wp_step`) is stated once, over the vectors the step computes; each printed part of the trip is one application.
-/
module

public import proofs.«01_k».proof.Proof.Setup
public import proofs.«01_k».proof.Proof.Gen.KernelIdeal.Skeleton

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Lanes Cert.Proof.Value

variable {F : FTy → Type} [FloatOps F]

local notation "𝕄" => MM F

variable (d : Dev nD) (L : grid0.Coords)

/-- What a trip of the inner loop works on: the table and the chunk of the index list, and the chunk of the result with
    its first `n` words looked up. -/
def Work (tab : Vec F S170 .f32) (idx : Vec F S2048 .i32) (n : ℕ) : sProp 𝕄 :=
  iprop(((sT).view.loc (thr d L) ↦{fullShare} tab) ∗ ((sI).view.loc (thr d L) ↦{fullShare} idx)
    ∗ ∃ f, ⌜Filled (α := F .f32) tab idx n f⌝ ∗ ((sO).view.loc (thr d L) ↦{fullShare} f))

variable {tab : Vec F S170 .f32} {idx : Vec F S2048 .i32}

/-- One gather-and-store step: the index words read, the table words they name checked and read, sixteen words stored. -/
theorem wp_step {α : Type} {v : ℕ} (hv : v < 10) {t : Fin k0_t2_loop.trips} {w : IVec S16 32} (hw : IsRow v t w)
    {A : IVec S16 32 → IVec S16 32} (hA : IsCol v A) (hidx : ∀ y, BitVec.toNat (idx y) < 17)
    {B : IVec S16 32 → Prop} {dB : ∀ x, Decidable (B x)} (hB : ∀ x, (∀ a y, ((![x] : Fin 1 → IVec S16 32) a y).toNat < S170.size a) → B x)
    {hi : ∀ a x, ((![w] : Fin 1 → IVec S16 32) a x).toNat < S2048.size a} {hl₁ : (sI).view.Loads}
    {hj : ∀ x, B x → ∀ a y, ((![x] : Fin 1 → IVec S16 32) a y).toNat < S170.size a} {hl₂ : (sT).view.Loads}
    {off : Fin 1 → ℕ} (hoff : off = ![160 * t.val + 16 * v]) {inb : ∀ a, off a + S16.size a ≤ S20480.size a}
    {hl₃ : (sO).view.LoadsAt (Rect.unit (s := S20480) off S16.size inb).toLoadRect}
    {hst : ((sO).access (Rect.unit (s := S20480) off S16.size inb)).Stores Finset.univ}
    {hm : (Finset.univ : Finset (Rect.unit (s := S20480) off S16.size inb).shape.Idx) = Finset.univ ∨ ∀ a, (Rect.unit (s := S20480) off S16.size inb).stride a = 1}
    {k : PUnit → Prog (TpuEff nD τ sig (Elt F) Λ₀ (thr d L).2) α} {Q : α → sProp 𝕄} :
    Work d L tab idx (160 * t.val + 16 * v) ⊢
      iprop((Work d L tab idx (160 * t.val + 16 * (v + 1)) -∗ wp frame (wpE (defs₀ (F := F)) 𝒱₀ (thr d L) none) Set.univ (k ⟨⟩) Q)
        -∗ wp frame (wpE (defs₀ (F := F)) 𝒱₀ (thr d L) none) Set.univ
          (SparseCore.vectorLoadIdx sI ![w] hi hl₁ >>= fun e =>
            Prog.lift (TpuEff.assume (B (A e)) (dB (A e))) >>= fun h =>
            SparseCore.vectorLoadIdx sT ![A e] (hj (A e) h.down) hl₂ >>= fun g =>
            Prog.lift (TpuEff.load sO (Rect.unit (s := S20480) off S16.size inb).toLoadRect hl₃) >>= fun _ =>
            Prog.lift (TpuEff.store sO (Rect.unit (s := S20480) off S16.size inb) g Finset.univ hst hm) >>= k) Q) := by
  unfold Work
  iintro ⟨HT, HI, ⟨%f, %hf, HO⟩⟩ Hk
  iapply (SparseCore.wp_vectorLoadIdx 𝒱₀ (thr d L) none Set.univ (base := sI) (S := Finset.univ) (q := fullShare)
    (Finset.subset_univ _)) $$ HI
  iintro HI
  have hrI : ((sI).access (.whole S2048)).read (Elt F) idx = idx := by
    funext x; simp only [Memref.access, View.read, Rect.emb_whole_apply]; exact (cast_eq _ _).trans (by simp; rfl)
  have hrT : ((sT).access (.whole S170)).read (Elt F) tab = tab := by
    funext x; simp only [Memref.access, View.read, Rect.emb_whole_apply]; exact (cast_eq _ _).trans (by simp; rfl)
  rw [hrI]
  have hlt := col_lt hA (e := loadIdx (F := F) idx ![w] hi) fun x => hidx _
  iapply (wp_assume 𝒱₀ (thr d L) none Set.univ (hB _ hlt))

  iapply (SparseCore.wp_vectorLoadIdx 𝒱₀ (thr d L) none Set.univ (base := sT) (h := hj _ (hB _ hlt)) (hl := hl₂) (S := Finset.univ) (q := fullShare)
    (Finset.subset_univ _)) $$ HT
  iintro HT
  rw [hrT]
  iapply (wp_load 𝒱₀ (thr d L) none Set.univ (m := sO) (S := Finset.univ) (q := fullShare) (Finset.subset_univ _)) $$ HO
  iintro HO
  iapply (wp_store 𝒱₀ (thr d L) none Set.univ (m := sO) (r := Rect.unit (s := S20480) off S16.size inb) (S := Finset.univ) (Finset.subset_univ _)) $$ HO
  iintro HO
  iapply Hk
  isplitl [HT]; · iexact HT
  isplitl [HI]; · iexact HI
  iexists (updateSlice f (loadIdx (F := F) tab ![A (loadIdx idx ![w] hi)] hlt) off ⟨rfl, inb⟩)
  isplitr
  · ipureintro
    exact filled_step hv hw hA hidx hi hlt hoff ⟨rfl, inb⟩ hf
  · iapply (Entails.of_eq (congrArg (fun g => ((sO).view.loc (thr d L) ↦{fullShare} g : sProp 𝕄))
      (View.write_whole_slice_unit cc0_scratch2 off S16.size inb f _))); iexact HO

/-- A printed part of a trip: its row vector checked, then its gather-and-store step, then the values it returns. -/
theorem wp_part {R : Type} {r : R} {v : ℕ} (hv : v < 10) {t : Fin k0_t2_loop.trips} {w : IVec S16 32} (hw : IsRow v t w)
    {A : IVec S16 32 → IVec S16 32} (hA : IsCol v A) (hidx : ∀ y, BitVec.toNat (idx y) < 17)
    {C : IVec S16 32 → Prop} {dC : ∀ x, Decidable (C x)} (hC : ∀ x, (∀ a y, ((![x] : Fin 1 → IVec S16 32) a y).toNat < S2048.size a) → C x)
    {B : IVec S16 32 → Prop} {dB : ∀ x, Decidable (B x)} (hB : ∀ x, (∀ a y, ((![x] : Fin 1 → IVec S16 32) a y).toNat < S170.size a) → B x)
    {hi : ∀ x, C x → ∀ a y, ((![x] : Fin 1 → IVec S16 32) a y).toNat < S2048.size a} {hl₁ : (sI).view.Loads}
    {hj : ∀ x, B x → ∀ a y, ((![x] : Fin 1 → IVec S16 32) a y).toNat < S170.size a} {hl₂ : (sT).view.Loads}
    {off : Fin 1 → ℕ} (hoff : off = ![160 * t.val + 16 * v]) {inb : ∀ a, off a + S16.size a ≤ S20480.size a}
    {hl₃ : (sO).view.LoadsAt (Rect.unit (s := S20480) off S16.size inb).toLoadRect}
    {hst : ((sO).access (Rect.unit (s := S20480) off S16.size inb)).Stores Finset.univ}
    {hm : (Finset.univ : Finset (Rect.unit (s := S20480) off S16.size inb).shape.Idx) = Finset.univ ∨ ∀ a, (Rect.unit (s := S20480) off S16.size inb).stride a = 1} :
    Work d L tab idx (160 * t.val + 16 * v) ⊢
      wp frame (wpE (defs₀ (F := F)) 𝒱₀ (thr d L) none) Set.univ
          (Prog.lift (TpuEff.assume (C w) (dC w)) >>= fun h =>
            SparseCore.vectorLoadIdx sI ![w] (hi w h.down) hl₁ >>= fun e =>
            Prog.lift (TpuEff.assume (B (A e)) (dB (A e))) >>= fun h =>
            SparseCore.vectorLoadIdx sT ![A e] (hj (A e) h.down) hl₂ >>= fun g =>
            Prog.lift (TpuEff.load sO (Rect.unit (s := S20480) off S16.size inb).toLoadRect hl₃) >>= fun _ =>
            Prog.lift (TpuEff.store sO (Rect.unit (s := S20480) off S16.size inb) g Finset.univ hst hm) >>= fun _ => pure r)
          fun r' => iprop(⌜r' = r⌝ ∗ Work d L tab idx (160 * t.val + 16 * (v + 1))) := by
  iintro HW
  iapply (wp_assume 𝒱₀ (thr d L) none Set.univ (hC _ (row_lt hv hw)))
  iapply (wp_step d L hv hw hA hidx hB (hi := hi w (hC _ (row_lt hv hw))) (hl₁ := hl₁) (hj := hj) (hl₂ := hl₂) hoff (hl₃ := hl₃)) $$ HW
  iintro HW
  rw [wp_pure]
  imodintro
  isplitr
  · ipureintro; rfl
  · iexact HW

/-! ## The ten parts of a trip -/

variable (tab) (t : Fin k0_t2_loop.trips) (hidx : ∀ y, BitVec.toNat (idx y) < 17)

include hidx

/-- Part 1: step 0 of the trip. -/
theorem part1 : Work d L tab idx (160 * t.val + 16 * 0) ⊢ wp frame (wpE (defs₀ (F := F)) 𝒱₀ (thr d L) none) Set.univ
      (k0_part1 L tV (Memref.isWhole_whole _) iV (Memref.isWhole_whole _) oV (Memref.isWhole_whole _) sT (Memref.isWhole_whole _) sI (Memref.isWhole_whole _)
        sO (Memref.isWhole_whole _) cc0_scoped0 cc0_scoped1 cc0_scoped2
        0#32 1#32 t)
      fun r => iprop(⌜r = ⟨Scf.iv 0#32 1#32 t, base t, lanes, 16#32⟩⌝ ∗ Work d L tab idx (160 * t.val + 16 * 1)) := by
  rw [k0_part1_eq_skeleton]
  exact wp_part d L (by decide) (w := k0_pay4 0#32 1#32 t)
    (.of_add (by decide) t (fun _ => rfl) (by decide +kernel)) (A := k0_pay5) (.of_add (fun _ _ => rfl) (by decide +kernel))
    hidx (C := k0_chk1) (fun _ h => h) (B := k0_chk2) (fun _ h => h) (k0_off2_eq t)

/-- Part 2: step 1 of the trip. -/
theorem part2 : Work d L tab idx (160 * t.val + 16 * 1) ⊢ wp frame (wpE (defs₀ (F := F)) 𝒱₀ (thr d L) none) Set.univ
      (k0_part2 L tV (Memref.isWhole_whole _) iV (Memref.isWhole_whole _) oV (Memref.isWhole_whole _) sT (Memref.isWhole_whole _) sI (Memref.isWhole_whole _)
        sO (Memref.isWhole_whole _) cc0_scoped0 cc0_scoped1 cc0_scoped2
        t (Scf.iv 0#32 1#32 t) (base t) lanes 16#32)
      fun r => iprop(⌜r = ⟨k0_pay10 lanes, 10#32, k0_pay11 lanes⟩⌝ ∗ Work d L tab idx (160 * t.val + 16 * 2)) := by
  rw [k0_part2_eq_skeleton]
  exact wp_part d L (by decide) (w := k0_pay8 (base t) lanes 16#32)
    (.of_add (by decide) t (fun _ => rfl) (by decide +kernel)) (A := k0_pay9 lanes 16#32) (.of_add (fun _ _ => rfl) (by decide +kernel))
    hidx (C := k0_chk3) (fun _ h => h) (B := k0_chk4) (fun _ h => h) (k0_off3_eq t)

/-- Part 3: step 2 of the trip. -/
theorem part3 : Work d L tab idx (160 * t.val + 16 * 2) ⊢ wp frame (wpE (defs₀ (F := F)) 𝒱₀ (thr d L) none) Set.univ
      (k0_part3 L tV (Memref.isWhole_whole _) iV (Memref.isWhole_whole _) oV (Memref.isWhole_whole _) sT (Memref.isWhole_whole _) sI (Memref.isWhole_whole _)
        sO (Memref.isWhole_whole _) cc0_scoped0 cc0_scoped1 cc0_scoped2
        t (Scf.iv 0#32 1#32 t) (base t) lanes (k0_pay10 lanes) 10#32 (k0_pay11 lanes))
      fun r => iprop(⌜r = ⟨k0_pay15 lanes, 10#32, k0_pay16 lanes, k0_pay17 lanes, 0#32⟩⌝ ∗ Work d L tab idx (160 * t.val + 16 * 3)) := by
  rw [k0_part3_eq_skeleton]
  exact wp_part d L (by decide) (w := k0_pay13 (base t) (k0_pay10 lanes) 10#32 (k0_pay11 lanes))
    (.of_add (by decide) t (fun _ => rfl) (by decide +kernel)) (A := k0_pay14 (k0_pay10 lanes) 10#32 (k0_pay11 lanes)) (.of_add (fun _ _ => rfl) (by decide +kernel))
    hidx (C := k0_chk5) (fun _ h => h) (B := k0_chk6) (fun _ h => h) (k0_off4_eq t)

/-- Part 4: step 3 of the trip. -/
theorem part4 : Work d L tab idx (160 * t.val + 16 * 3) ⊢ wp frame (wpE (defs₀ (F := F)) 𝒱₀ (thr d L) none) Set.univ
      (k0_part4 L tV (Memref.isWhole_whole _) iV (Memref.isWhole_whole _) oV (Memref.isWhole_whole _) sT (Memref.isWhole_whole _) sI (Memref.isWhole_whole _)
        sO (Memref.isWhole_whole _) cc0_scoped0 cc0_scoped1 cc0_scoped2
        t (Scf.iv 0#32 1#32 t) (base t) lanes (k0_pay15 lanes) 10#32 (k0_pay16 lanes) (k0_pay17 lanes) 0#32)
      fun r => iprop(⌜r = ⟨k0_pay21 lanes, 10#32, k0_pay22 lanes, k0_pay23 lanes, 0#32⟩⌝ ∗ Work d L tab idx (160 * t.val + 16 * 4)) := by
  rw [k0_part4_eq_skeleton]
  exact wp_part d L (by decide) (w := k0_pay19 (base t) (k0_pay15 lanes) 10#32 (k0_pay16 lanes) (k0_pay17 lanes) 0#32)
    (.of_add (by decide) t (fun _ => rfl) (by decide +kernel)) (A := k0_pay20 (k0_pay15 lanes) 10#32 (k0_pay16 lanes) (k0_pay17 lanes) 0#32) (.of_add (fun _ _ => rfl) (by decide +kernel))
    hidx (C := k0_chk7) (fun _ h => h) (B := k0_chk8) (fun _ h => h) (k0_off5_eq t)

/-- Part 5: step 4 of the trip. -/
theorem part5 : Work d L tab idx (160 * t.val + 16 * 4) ⊢ wp frame (wpE (defs₀ (F := F)) 𝒱₀ (thr d L) none) Set.univ
      (k0_part5 L tV (Memref.isWhole_whole _) iV (Memref.isWhole_whole _) oV (Memref.isWhole_whole _) sT (Memref.isWhole_whole _) sI (Memref.isWhole_whole _)
        sO (Memref.isWhole_whole _) cc0_scoped0 cc0_scoped1 cc0_scoped2
        t (Scf.iv 0#32 1#32 t) (base t) lanes (k0_pay21 lanes) 10#32 (k0_pay22 lanes) (k0_pay23 lanes) 0#32)
      fun r => iprop(⌜r = ⟨k0_pay27 lanes, 10#32, k0_pay28 lanes, k0_pay29 lanes, Scalar.extui (Scalar.cmpi .sgt 10#32 0#32), Scalar.extui (Scalar.cmpi .slt 10#32 0#32)⟩⌝ ∗ Work d L tab idx (160 * t.val + 16 * 5)) := by
  rw [k0_part5_eq_skeleton]
  exact wp_part d L (by decide) (w := k0_pay25 (base t) (k0_pay21 lanes) 10#32 (k0_pay22 lanes) (k0_pay23 lanes) 0#32)
    (.of_add (by decide) t (fun _ => rfl) (by decide +kernel)) (A := k0_pay26 (k0_pay21 lanes) 10#32 (k0_pay22 lanes) (k0_pay23 lanes) 0#32) (.of_add (fun _ _ => rfl) (by decide +kernel))
    hidx (C := k0_chk9) (fun _ h => h) (B := k0_chk10) (fun _ h => h) (k0_off6_eq t)

/-- Part 6: step 5 of the trip. -/
theorem part6 : Work d L tab idx (160 * t.val + 16 * 5) ⊢ wp frame (wpE (defs₀ (F := F)) 𝒱₀ (thr d L) none) Set.univ
      (k0_part6 L tV (Memref.isWhole_whole _) iV (Memref.isWhole_whole _) oV (Memref.isWhole_whole _) sT (Memref.isWhole_whole _) sI (Memref.isWhole_whole _)
        sO (Memref.isWhole_whole _) cc0_scoped0 cc0_scoped1 cc0_scoped2
        t (Scf.iv 0#32 1#32 t) (base t) lanes (k0_pay27 lanes) 10#32 (k0_pay28 lanes) (k0_pay29 lanes) (Scalar.extui (Scalar.cmpi .sgt 10#32 0#32)) (Scalar.extui (Scalar.cmpi .slt 10#32 0#32)))
      fun r => iprop(⌜r = ⟨k0_pay33 lanes, k0_pay34 lanes, k0_pay35 lanes, k0_pay36 lanes⟩⌝ ∗ Work d L tab idx (160 * t.val + 16 * 6)) := by
  rw [k0_part6_eq_skeleton]
  exact wp_part d L (by decide) (w := k0_pay31 (base t) (k0_pay27 lanes) 10#32 (k0_pay28 lanes) (k0_pay29 lanes) (Scalar.extui (Scalar.cmpi .sgt 10#32 0#32)) (Scalar.extui (Scalar.cmpi .slt 10#32 0#32)))
    (.of_add (by decide) t (fun _ => rfl) (by decide +kernel)) (A := k0_pay32 (k0_pay27 lanes) 10#32 (k0_pay28 lanes) (k0_pay29 lanes) (Scalar.extui (Scalar.cmpi .sgt 10#32 0#32)) (Scalar.extui (Scalar.cmpi .slt 10#32 0#32))) (.of_add (fun _ _ => rfl) (by decide +kernel))
    hidx (C := k0_chk11) (fun _ h => h) (B := k0_chk12) (fun _ h => h) (k0_off7_eq t)

/-- Part 7: step 6 of the trip. -/
theorem part7 : Work d L tab idx (160 * t.val + 16 * 6) ⊢ wp frame (wpE (defs₀ (F := F)) 𝒱₀ (thr d L) none) Set.univ
      (k0_part7 L tV (Memref.isWhole_whole _) iV (Memref.isWhole_whole _) oV (Memref.isWhole_whole _) sT (Memref.isWhole_whole _) sI (Memref.isWhole_whole _)
        sO (Memref.isWhole_whole _) cc0_scoped0 cc0_scoped1 cc0_scoped2
        t (Scf.iv 0#32 1#32 t) (base t) lanes (k0_pay33 lanes) (k0_pay34 lanes) (k0_pay35 lanes) (k0_pay36 lanes))
      fun r => iprop(⌜r = ⟨k0_pay40 lanes, k0_pay41 lanes, k0_pay42 lanes, 1#32⟩⌝ ∗ Work d L tab idx (160 * t.val + 16 * 7)) := by
  rw [k0_part7_eq_skeleton]
  exact wp_part d L (by decide) (w := k0_pay38 (base t) (k0_pay34 lanes) (k0_pay35 lanes) (k0_pay36 lanes))
    (.of_add (by decide) t (fun _ => rfl) (by decide +kernel)) (A := k0_pay39 (k0_pay33 lanes) (k0_pay34 lanes) (k0_pay35 lanes) (k0_pay36 lanes)) (.of_add (fun _ _ => rfl) (by decide +kernel))
    hidx (C := k0_chk13) (fun _ h => h) (B := k0_chk14) (fun _ h => h) (k0_off8_eq t)

/-- Part 8: step 7 of the trip. -/
theorem part8 : Work d L tab idx (160 * t.val + 16 * 7) ⊢ wp frame (wpE (defs₀ (F := F)) 𝒱₀ (thr d L) none) Set.univ
      (k0_part8 L tV (Memref.isWhole_whole _) iV (Memref.isWhole_whole _) oV (Memref.isWhole_whole _) sT (Memref.isWhole_whole _) sI (Memref.isWhole_whole _)
        sO (Memref.isWhole_whole _) cc0_scoped0 cc0_scoped1 cc0_scoped2
        t (Scf.iv 0#32 1#32 t) (base t) lanes (k0_pay40 lanes) (k0_pay41 lanes) (k0_pay42 lanes) 1#32)
      fun r => iprop(⌜r = ⟨k0_pay46 lanes, k0_pay47 lanes, k0_pay48⟩⌝ ∗ Work d L tab idx (160 * t.val + 16 * 8)) := by
  rw [k0_part8_eq_skeleton]
  exact wp_part d L (by decide) (w := k0_pay44 (base t) (k0_pay41 lanes) (k0_pay42 lanes) 1#32)
    (.of_add (by decide) t (fun _ => rfl) (by decide +kernel)) (A := k0_pay45 (k0_pay40 lanes) (k0_pay41 lanes) (k0_pay42 lanes) 1#32) (.of_add (fun _ _ => rfl) (by decide +kernel))
    hidx (C := k0_chk15) (fun _ h => h) (B := k0_chk16) (fun _ h => h) (k0_off9_eq t)

omit hidx in
/-- A program that returns a known value, ahead of a continuation. -/
theorem wp_known {R α : Type} {p : Prog (TpuEff nD τ sig (Elt F) Λ₀ (thr d L).2) R} {k : R → Prog (TpuEff nD τ sig (Elt F) Λ₀ (thr d L).2) α}
    {a : R} {P P' : sProp 𝕄} {Q : α → sProp 𝕄}
    (hp : P ⊢ wp frame (wpE (defs₀ (F := F)) 𝒱₀ (thr d L) none) Set.univ p fun r => iprop(⌜r = a⌝ ∗ P'))
    (hk : P' ⊢ wp frame (wpE (defs₀ (F := F)) 𝒱₀ (thr d L) none) Set.univ (k a) Q) :
    P ⊢ wp frame (wpE (defs₀ (F := F)) 𝒱₀ (thr d L) none) Set.univ (p >>= k) Q := by
  rw [wp_bind]
  refine hp.trans (wp_mono frame _ _ fun r => ?_)
  iintro ⟨%hr, HP⟩
  subst hr
  iapply hk
  iexact HP

/-- Part 9: step 8 of the trip, and the check of step 9's row vector. -/
theorem part9 : Work d L tab idx (160 * t.val + 16 * 8) ⊢ wp frame (wpE (defs₀ (F := F)) 𝒱₀ (thr d L) none) Set.univ
      (k0_part9 L tV (Memref.isWhole_whole _) iV (Memref.isWhole_whole _) oV (Memref.isWhole_whole _) sT (Memref.isWhole_whole _) sI (Memref.isWhole_whole _)
        sO (Memref.isWhole_whole _) cc0_scoped0 cc0_scoped1 cc0_scoped2
        t (Scf.iv 0#32 1#32 t) (base t) lanes (k0_pay46 lanes) (k0_pay47 lanes) k0_pay48)
      fun r => iprop(⌜r.1 = k0_pay53 lanes ∧ r.2.1 = k0_pay54 (base t) lanes⌝ ∗ Work d L tab idx (160 * t.val + 16 * 9)) := by
  rw [k0_part9_eq_skeleton]; unfold k0_part9_skel
  iintro HW
  have h8 : IsRow 8 t (k0_pay49 (base t) (k0_pay47 lanes)) := .of_add (by decide) t (fun _ => rfl) (by decide +kernel)
  have h9 : IsRow 9 t (k0_pay54 (base t) lanes) := .of_add (by decide) t (fun _ => rfl) (by decide +kernel)
  iapply (wp_assume 𝒱₀ (thr d L) none Set.univ (show k0_chk17 _ from row_lt (by decide) h8))
  iapply (wp_step d L (by decide) h8 (A := k0_pay50 (k0_pay46 lanes) (k0_pay47 lanes) k0_pay48)
    (.of_add (fun _ _ => rfl) (by decide +kernel)) hidx (B := k0_chk18) (fun _ h => h) (hi := row_lt (by decide) h8)
    (hl₁ := View.loads_vmem h_S2048) (hj := k0_idx18_inb) (hl₂ := View.loads_vmem h_S170) (k0_off10_eq t) (inb := k0_off10_inb t)
    (hl₃ := View.loadsAt_vmem h_S16)) $$ HW
  iintro HW
  have h19 : k0_chk19 (k0_pay54 (base t) lanes) := row_lt (by decide) h9
  iapply (wp_assume 𝒱₀ (thr d L) none Set.univ h19)
  rw [show ∀ k : PLift (k0_chk19 (k0_pay54 (base t) lanes)) → Prog (TpuEff nD τ sig (Elt F) Λ₀ (thr d L).2) _,
    (Prog.ret ⟨h19⟩).bind k = k ⟨h19⟩ from fun _ => rfl]
  simp only [wp_pure]
  imodintro
  isplitr
  · ipureintro; exact ⟨trivial, trivial⟩
  · iexact HW

set_option maxHeartbeats 1000000 in
/-- One trip of the inner loop looks up the next 160 words of the chunk of the result. -/
theorem trip : Work d L tab idx (160 * t.val) ⊢ wp frame (wpE (defs₀ (F := F)) 𝒱₀ (thr d L) none) Set.univ
      (k0_t2_body L tV (Memref.isWhole_whole _) iV (Memref.isWhole_whole _) oV (Memref.isWhole_whole _) sT (Memref.isWhole_whole _) sI (Memref.isWhole_whole _)
        sO (Memref.isWhole_whole _) cc0_scoped0 cc0_scoped1 cc0_scoped2 t ⟨⟩)
      fun _ => Work d L tab idx (160 * (t.val + 1)) := by
  unfold k0_t2_body
  refine wp_known d L (part1 d L tab t hidx) ?_
  refine wp_known d L (part2 d L tab t hidx) ?_
  refine wp_known d L (part3 d L tab t hidx) ?_
  refine wp_known d L (part4 d L tab t hidx) ?_
  refine wp_known d L (part5 d L tab t hidx) ?_
  refine wp_known d L (part6 d L tab t hidx) ?_
  refine wp_known d L (part7 d L tab t hidx) ?_
  refine wp_known d L (part8 d L tab t hidx) ?_
  rw [wp_bind]; refine (part9 d L tab t hidx).trans (wp_mono frame _ _ fun r => ?_)
  iintro ⟨%hr, HW⟩
  obtain ⟨v398, v400, hw⟩ := r
  obtain ⟨h1, h2⟩ := hr
  dsimp only at h1 h2
  subst h1; subst h2
  have h9 : IsRow 9 t (k0_pay54 (base t) lanes) := .of_add (by decide) t (fun _ => rfl) (by decide +kernel)
  iapply (wp_step d L (by decide) h9 (A := k0_pay1 (k0_pay53 lanes)) (.of_add (fun _ _ => rfl) (by decide +kernel)) hidx
    (B := k0_chk20) (fun _ h => h) (hi := row_lt (by decide) h9) (hl₁ := View.loads_vmem h_S2048) (hj := k0_idx20_inb)
    (hl₂ := View.loads_vmem h_S170) (k0_off11_eq t) (inb := k0_off11_inb t) (hl₃ := View.loadsAt_vmem h_S16)) $$ HW
  iintro HW
  rw [wp_pure]
  imodintro
  iexact HW

end Cert.Proof.Lookup

end
-- ==== Proof.Tile.lean ====
/-
  A tile's run: the table copied in; then, fifty times, a chunk of the index list copied in, looked up, and the result
  copied out. The tile holds a read share of the table and of the index list, and the fifty chunks of the result that are
  its own; it gives the chunks back holding the lookup.
-/
module

public import proofs.«01_k».proof.Proof.Step

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Cert.Proof.Value

variable {F : FTy → Type} [FloatOps F]

local notation "𝕄" => MM F

variable (d : Dev nD) (L : grid0.Coords)

/-- The outer loop runs fifty times. -/
theorem chunks_eq : k0_t1_loop.trips = 50 := by decide +kernel

/-- The first index word of chunk `t` of the tile. -/
def first (L : grid0.Coords) (t : Fin k0_t1_loop.trips) : ℕ := 204800 * (L 1).val + 102400 * (L 0).val + 2048 * t.val

theorem first_le (t : Fin k0_t1_loop.trips) : first L t + 2048 ≤ 3276800 := by
  have h := k0_off1_inb L t 0
  rw [k0_off1_eq] at h
  exact h

/-- Chunk `t` of the index list and of the result, as the tile addresses them. -/
abbrev iChunk (t : Fin k0_t1_loop.trips) : Memref sig .scVector .hbm S2048 .i32 :=
  iV.slice (Rect.unit (s := S3276800) (k0_off1 L t) S2048.size (k0_off1_inb L t)) (fun _ => rfl)
abbrev oChunk (t : Fin k0_t1_loop.trips) : Memref sig .scVector .hbm S20480 .f32 :=
  oV.slice (Rect.unit (s := S32768000) (k0_off12 L t) S20480.size (k0_off12_inb L t)) (fun _ => rfl)

/-- The words of the result in the tile's chunk `t`. -/
abbrev oSet (t : Fin k0_t1_loop.trips) : Finset S32768000.Idx := (oChunk L t).view.set

/-- Word `y` of the chunk of the index list is word `first + y` of the list. -/
theorem iChunk_read (t : Fin k0_t1_loop.trips) (idx : Vec F S3276800 .i32) (y : S2048.Idx) :
    (iChunk L t).view.read (Elt F) idx y = idx (pos 3276800 (by decide) (first L t + (y 0).val)) := by
  rw [View.read_apply]
  refine (cast_eq _ _).trans (congrArg idx (eq_pos _ ?_))
  show (k0_off1 L t) 0 + 1 * (y 0).val = _
  rw [k0_off1_eq]
  show 204800 * (L 1).val + 102400 * (L 0).val + 2048 * t.val + 1 * (y 0).val = first L t + (y 0).val
  unfold first; omega

/-- Word `y` of the chunk of the result is word `10 first + y` of the result. -/
theorem oChunk_emb (t : Fin k0_t1_loop.trips) (y : S20480.Idx) :
    (oChunk L t).view.emb y = pos 32768000 (by decide) (10 * first L t + (y 0).val) := by
  refine eq_pos _ ?_
  show (k0_off12 L t) 0 + 1 * (y 0).val = _
  rw [k0_off12_eq]
  show 2048000 * (L 1).val + 1024000 * (L 0).val + 20480 * t.val + 1 * (y 0).val = 10 * first L t + (y 0).val
  unfold first; omega

/-- The chunk of the result, written with the lookup of the chunk of the index list, holds the lookup of the whole list
    at its own words. -/
theorem oChunk_write (t : Fin k0_t1_loop.trips) (tab : Vec F S170 .f32) (idx : Vec F S3276800 .i32) (c : Vec F S2048 .i32)
    (hc : ∀ y, c y = (iChunk L t).view.read (Elt F) idx y) (f₀ : Vec F S32768000 .f32) (f : Vec F S20480 .f32)
    (hf : ∀ p, f p = lookedChunk (α := F .f32) tab c p) :
    ∀ i ∈ oSet L t, (oChunk L t).view.writes (Elt F) f₀ [⟨Rect.whole S20480, f⟩] i = lookedAll (α := F .f32) tab idx i := by
  intro i hi
  obtain ⟨y, -, rfl⟩ := Finset.mem_map.mp hi
  have hy : (oChunk L t).view.emb y = ((oChunk L t).view.slice (Rect.whole S20480)).emb y :=
    congrArg (oChunk L t).view.emb (show y = (Rect.whole S20480).emb y from (Rect.emb_whole_apply S20480 y).symm)
  have hw : (oChunk L t).view.writes (Elt F) f₀ [⟨Rect.whole S20480, f⟩] ((oChunk L t).view.emb y) = f y := by
    rw [hy]
    exact (View.write_emb_of_mem _ _ (Finset.mem_univ y)).trans (cast_eq _ _)
  rw [hw]
  rw [hf, looked_chunk tab idx c (first L t) (first_le L t) (fun y => (hc y).trans (iChunk_read L t idx y)) y]
  exact congrArg _ (oChunk_emb L t y).symm

variable (tab : Vec F S170 .f32) (idx : Vec F S3276800 .i32) (o₀ : Vec F S32768000 .f32)

/-- Pieces of which the first `k` are done. -/
def done {n : ℕ} (A B : Fin n → sProp 𝕄) (k : ℕ) (s : Fin n) : sProp 𝕄 := if s.val < k then A s else B s

omit [FloatOps F] in
/-- Of `n` pieces, the first `t` of them done, piece `t` is not: it is taken out. -/
theorem done_out {n : ℕ} (A B : Fin n → sProp 𝕄) (t : Fin n) :
    bigSep Finset.univ (done A B t.val) = iprop(B t ∗ bigSep (Finset.univ.erase t) (done A B t.val)) := by
  rw [SparseCore.bigSep_erase' (Finset.mem_univ t), show done A B t.val t = B t from if_neg (lt_irrefl _)]

omit [FloatOps F] in
/-- It is put back done. -/
theorem done_in {n : ℕ} (A B : Fin n → sProp 𝕄) (t : Fin n) :
    bigSep Finset.univ (done A B (t.val + 1)) = iprop(A t ∗ bigSep (Finset.univ.erase t) (done A B t.val)) := by
  rw [SparseCore.bigSep_erase' (Finset.mem_univ t), show done A B (t.val + 1) t = A t from if_pos (Nat.lt_succ_self _)]
  congr 1
  refine bigSep_congr fun s hs => ?_
  have hne : s.val ≠ t.val := fun e => (Finset.mem_erase.mp hs).1 (Fin.ext e)
  have hiff : s.val < t.val + 1 ↔ s.val < t.val := by omega
  simp only [done, hiff]

omit [FloatOps F] in
/-- At the start none is done. -/
theorem done_zero {n : ℕ} (A B : Fin n → sProp 𝕄) : bigSep Finset.univ (done A B 0) = bigSep Finset.univ B :=
  bigSep_congr fun _ _ => if_neg (Nat.not_lt_zero _)

omit [FloatOps F] in
/-- At the end all are. -/
theorem done_all {n : ℕ} (A B : Fin n → sProp 𝕄) : bigSep Finset.univ (done A B n) = bigSep Finset.univ A :=
  bigSep_congr fun s _ => if_pos s.isLt

/-- The tile's chunk `t` of the result, at contents `f`. -/
def chunkAt (f : Vec F S32768000 .f32) (t : Fin k0_t1_loop.trips) : sProp 𝕄 := oLoc d ↦[oSet L t]{fullShare} f

/-- The tile's chunks of the result, `n` of them done. -/
def Chunks (n : ℕ) : sProp 𝕄 := bigSep Finset.univ (done (chunkAt d L (lookedAll (α := F .f32) tab idx)) (chunkAt d L o₀) n)

/-- The three cells of the tile's semaphores. -/
abbrev cellA : GSem nD τ sig := (thr d L, .dma cc0_scoped0.sem)
abbrev cellB : GSem nD τ sig := (thr d L, .dma cc0_scoped1.sem)
abbrev cellC : GSem nD τ sig := (thr d L, .dma cc0_scoped2.sem)

variable (q : PosShare TreeShare)

/-- What an outer trip works on, `n` chunks done. -/
def Outer (O : CellTallies nD τ sig (HIx 1)) (W : Waits sig (HIx 1)) (n : ℕ) (_ : PUnit) : sProp 𝕄 :=
  iprop(Transfers.MayWaits (thr d L) (none : HIx 1) O
    ∗ ((iV).view.loc (thr d L) ↦{q} idx)
    ∗ ((sT).view.loc (thr d L) ↦{fullShare} tab)
    ∗ (∃ f, (sI).view.loc (thr d L) ↦{fullShare} f)
    ∗ (∃ f, (sO).view.loc (thr d L) ↦{fullShare} f)
    ∗ semVal (cellB d L) 0 ∗ semVal (cellC d L) 0
    ∗ Chunks d L tab idx o₀ n
    ∗ ∃ W', ⌜∀ p ∈ W', p ∈ W ∨ p.2 = none⌝ ∗ owes (thr d L) O W')

/-- One outer trip: the next chunk of the index list in, looked up, and out. -/
theorem outer_trip (hidx : ∀ y, BitVec.toNat (idx y) < 17) (O : CellTallies nD τ sig (HIx 1)) (W : Waits sig (HIx 1)) (t : Fin k0_t1_loop.trips) :
    Outer d L tab idx o₀ q O W t.val ⟨⟩ ⊢ wp frame (wpE (defs₀ (F := F)) 𝒱₀ (thr d L) none) Set.univ
      (k0_t1_body L tV (Memref.isWhole_whole _) iV (Memref.isWhole_whole _) oV (Memref.isWhole_whole _) sT (Memref.isWhole_whole _) sI (Memref.isWhole_whole _)
        sO (Memref.isWhole_whole _) cc0_scoped0 cc0_scoped1 cc0_scoped2 t ⟨⟩)
      fun r => Outer d L tab idx o₀ q O W (t.val + 1) r := by
  unfold k0_t1_body Outer
  unfold Chunks
  rw [done_out, done_in]
  unfold chunkAt
  iintro ⟨Hmw, Hi, HT, ⟨%fi, HI⟩, ⟨%fo, HO⟩, HsB, HsC, ⟨Ho, Hrest⟩, %W', %hW', HW⟩
  sl_exec
  -- the chunk of the index list is in: its words are below 17
  have hc : View.write (Elt F) (sI).view fi (outer_trip.sl.dma0 L idx t) Finset.univ = (iChunk L t).view.read (Elt F) idx :=
    View.write_whole_univ _ _ _
  rw [hc]
  have hlt : ∀ y, BitVec.toNat ((iChunk L t).view.read (Elt F) idx y) < 17 := fun y => by rw [iChunk_read]; exact hidx _
  sl_for (fun n _ => Work d L tab ((iChunk L t).view.read (Elt F) idx) (160 * n)) $$ [HT HI HO]
  case region =>
    intro k _
    exact trip d L tab k hlt
  · unfold Work
    isplitl [HT]; · iexact HT
    isplitl [HI]; · iexact HI
    iexists fo; isplitr
    · ipureintro; intro p hp; exact absurd hp (Nat.not_lt_zero _)
    · iexact HO
  iintro %_ HI
  unfold Work
  icases HI with ⟨HT, HI, %f, %hf, HO⟩
  have hf' : ∀ p, f p = lookedChunk (α := F .f32) tab ((iChunk L t).view.read (Elt F) idx) p := fun p =>
    hf p (show (p 0).val < 160 * k0_t2_loop.trips by rw [trips_eq]; exact (p 0).isLt)
  ihave Ho := (Entails.of_eq (show (oLoc d ↦[oSet L t]{fullShare} o₀ : sProp 𝕄)
    = ((oChunk L t).view.loc (thr d L) ↦[(oChunk L t).view.set]{fullShare} o₀) from rfl)) $$ Ho
  sl_exec
  sl_step
  isplitl [Hmw]; · iexact Hmw
  isplitl [Hi]; · iexact Hi
  isplitl [HT]; · iexact HT
  isplitl [HI]; · iexists _; iexact HI
  isplitl [HO]; · iexists _; iexact HO
  isplitl [HsB]; · iexact HsB
  isplitl [HsC]; · iexact HsC
  isplitl [Ho Hrest]
  · isplitl [Ho]
    · iapply (Entails.of_eq (pointsTo_congr (oChunk_write L t tab idx _ (fun _ => rfl) o₀ f hf'))) $$ Ho
    · iexact Hrest
  iexists _; isplitr
  swap; · iexact HW
  ipureintro; intro p hp
  rcases Finset.mem_insert.mp hp with hp | hp; · exact .inr (hp ▸ rfl)
  rcases Finset.mem_insert.mp hp with hp | hp; · exact .inr (hp ▸ rfl)
  exact hW' p hp

/-! ## The tile's own semaphores and buffers -/

omit [FloatOps F] in
/-- The three cells are among the tile's own. -/
theorem ownSems_tile : (ownSems0 (thr d L) : sProp 𝕄)
    = iprop(semVal (cellA d L) 0 ∗ semVal (cellB d L) 0 ∗ semVal (cellC d L) 0
      ∗ bigSep ((((ownCells (thr d L)).erase (cellA d L)).erase (cellB d L)).erase (cellC d L)) fun g => semVal g 0) := by
  have hA : cellA d L ∈ ownCells (thr d L) :=
    mem_ownCells.mpr ⟨rfl, show (SemLoc.dma cc0_scoped0.sem : SemLoc sig).isScoped .scVector = true by decide⟩
  have hB : cellB d L ∈ ownCells (thr d L) :=
    mem_ownCells.mpr ⟨rfl, show (SemLoc.dma cc0_scoped1.sem : SemLoc sig).isScoped .scVector = true by decide⟩
  have hC : cellC d L ∈ ownCells (thr d L) :=
    mem_ownCells.mpr ⟨rfl, show (SemLoc.dma cc0_scoped2.sem : SemLoc sig).isScoped .scVector = true by decide⟩
  have hBA : cellB d L ≠ cellA d L := fun e =>
    absurd (show (SemLoc.dma cc0_scoped1.sem : SemLoc sig) = .dma cc0_scoped0.sem from congrArg Prod.snd e) (by decide)
  have hCA : cellC d L ≠ cellA d L := fun e =>
    absurd (show (SemLoc.dma cc0_scoped2.sem : SemLoc sig) = .dma cc0_scoped0.sem from congrArg Prod.snd e) (by decide)
  have hCB : cellC d L ≠ cellB d L := fun e =>
    absurd (show (SemLoc.dma cc0_scoped2.sem : SemLoc sig) = .dma cc0_scoped1.sem from congrArg Prod.snd e) (by decide)
  unfold SparseCore.Cfg.ownSems0
  rw [SparseCore.bigSep_erase' hA, SparseCore.bigSep_erase' (Finset.mem_erase.mpr ⟨hBA, hB⟩),
    SparseCore.bigSep_erase' (Finset.mem_erase.mpr ⟨hCB, Finset.mem_erase.mpr ⟨hCA, hC⟩⟩)]

/-- A scratch buffer of the tile, as a buffer of the device. -/
abbrev own (b : Ref sig .scVector) : DevRef τ sig := (thr d L).2.devRef b

omit [FloatOps F] in
/-- The three scratch buffers are among the tile's own. -/
theorem ownBufs_tile : (ownBufs (thr d L) : sProp 𝕄)
    = iprop((∃ f, (thr d L).loc cc0_scratch0 ↦{fullShare} f) ∗ (∃ f, (thr d L).loc cc0_scratch1 ↦{fullShare} f)
      ∗ (∃ f, (thr d L).loc cc0_scratch2 ↦{fullShare} f)
      ∗ bigSep ((((ownRefs (τ := τ) (thr d L).2).erase (own d L cc0_scratch0)).erase (own d L cc0_scratch1)).erase (own d L cc0_scratch2))
          fun b => iprop(∃ f, ((d, b) : Loc nD τ sig) ↦{fullShare} f)) := by
  have h0 : own d L cc0_scratch0 ∈ ownRefs (τ := τ) (thr d L).2 := SparseCore.Cfg.mem_ownRefs_of_owner rfl
  have h1 : own d L cc0_scratch1 ∈ ownRefs (τ := τ) (thr d L).2 := SparseCore.Cfg.mem_ownRefs_of_owner rfl
  have h2 : own d L cc0_scratch2 ∈ ownRefs (τ := τ) (thr d L).2 := SparseCore.Cfg.mem_ownRefs_of_owner rfl
  have ne {b b' : Ref sig .scVector} (h : b ≠ b') : own d L b ≠ own d L b' := fun e => h (Proc.devRef_injective _ e)
  unfold SparseCore.Cfg.ownBufs
  refine (SparseCore.bigSep_erase' h0).trans ?_
  rw [SparseCore.bigSep_erase' (Finset.mem_erase.mpr ⟨ne (by decide), h1⟩),
    SparseCore.bigSep_erase' (Finset.mem_erase.mpr ⟨ne (by decide), Finset.mem_erase.mpr ⟨ne (by decide), h2⟩⟩)]

/-- The tile's chunks of the result, all at contents `f`. -/
def chunksAt (f : Vec F S32768000 .f32) : sProp 𝕄 := bigSep Finset.univ (chunkAt d L f)

/-- What the tile is handed, and what it hands back: its shares of the table and the index list, its chunks of the result. -/
def Tile (f : Vec F S32768000 .f32) : sProp 𝕄 :=
  iprop((tLoc d ↦{q} tab) ∗ (iLoc d ↦{q} idx) ∗ chunksAt d L f)

/-- The tile's run: its chunks of the result come back holding the lookup. -/
theorem tile_body (hidx : ∀ y, BitVec.toNat (idx y) < 17) (O : CellTallies nD τ sig (HIx 1)) (W : Waits sig (HIx 1)) (hO : ∀ g, O g none = 0) :
    iprop(levAts (K (F := F)).L (K (F := F)).lev ∗ emp ∗ Tile d L tab idx q o₀
        ∗ scopedBufs (thr d L) ∗ scopedSems0 (thr d L) ∗ owes (thr d L) O W)
      ⊢ wp frame (wpE (defs₀ (F := F)) 𝒱₀ (thr d L) none) Set.univ
          (cc0__sc_lookup L tV (Memref.isWhole_whole _) iV (Memref.isWhole_whole _) oV (Memref.isWhole_whole _) sT (Memref.isWhole_whole _)
            sI (Memref.isWhole_whole _) sO (Memref.isWhole_whole _) cc0_scoped0 cc0_scoped1 cc0_scoped2)
          fun _ => iprop(Tile d L tab idx q (lookedAll (α := F .f32) tab idx)
            ∗ scopedBufs (thr d L) ∗ scopedSems0 (thr d L)
            ∗ ∃ W', ⌜∀ p ∈ W', p ∈ W ∨ p.2 = none⌝ ∗ owes (thr d L) O W') := by
  simp only [cc0__sc_lookup_eq_skeleton]; unfold cc0__sc_lookup_skel
  unfold Tile chunksAt
  rw [(K (F := F)).scopedBufs_V facts d (cV L) (jV L), SparseCore.Cfg.scopedSems0_V (Val := Elt F) d (cV L) (jV L), ownSems_tile, ownBufs_tile]
  iintro ⟨#Hlv, -, ⟨Ht, Hi, Ho⟩, ⟨⟨%ft, HT⟩, ⟨%fi, HI⟩, ⟨%fo, HO⟩, Hbufs⟩, ⟨HsA, HsB, HsC, Hsems⟩, HW⟩
  ihave Hmw := (show levAts (K (F := F)).L (K (F := F)).lev ⊢ Transfers.MayWaits (thr d L) (default : HIx 1) O from
    (K (F := F)).mayWaits_none (thr := thr d L) hO) $$ Hlv
  ihave Ht := (Entails.of_eq (show (tLoc d ↦{q} tab : sProp 𝕄) = ((tV).view.loc (thr d L) ↦{q} tab) from rfl)) $$ Ht
  ihave HT := (Entails.of_eq (show ((thr d L).loc cc0_scratch0 ↦{fullShare} ft : sProp 𝕄) = ((sT).view.loc (thr d L) ↦{fullShare} ft) from rfl)) $$ HT
  sl_exec
  have ht : View.write (Elt F) (sT).view ft (tile_body.sl.dma0 tab) Finset.univ = tab := View.write_whole_univ _ _ _
  rw [ht]
  sl_for (Outer d L tab idx o₀ q O W) $$ [Hmw Hi HT HI HO HsB HsC Ho HW]
  case region =>
    intro k _
    exact outer_trip d L tab idx o₀ q hidx O W k
  · unfold Outer Chunks
    rw [done_zero]
    isplitl [Hmw]; · iexact Hmw
    isplitl [Hi]; · iexact Hi
    isplitl [HT]; · iexact HT
    isplitl [HI]; · iexists _; iexact HI
    isplitl [HO]; · iexists _; iexact HO
    isplitl [HsB]; · iexact HsB
    isplitl [HsC]; · iexact HsC
    isplitl [Ho]; · iexact Ho
    iexists _; isplitr
    swap; · iexact HW
    ipureintro; intro p hp
    rcases Finset.mem_insert.mp hp with hp | hp; · exact .inr (hp ▸ rfl)
    exact .inl hp
  iintro %_ Hout
  unfold Outer Chunks
  rw [done_all]
  icases Hout with ⟨-, Hi, HT, ⟨%fi', HI⟩, ⟨%fo', HO⟩, HsB, HsC, Ho, HW⟩
  sl_exec
  sl_step
  isplitl [Ht Hi Ho]
  · isplitl [Ht]; · iexact Ht
    isplitl [Hi]; · iexact Hi
    iexact Ho
  isplitl [HT HI HO Hbufs]
  · isplitl [HT]; · iexists _; iexact HT
    isplitl [HI]; · iexists _; iexact HI
    isplitl [HO]; · iexists _; iexact HO
    iexact Hbufs
  isplitl [HsA HsB HsC Hsems]
  · isplitl [HsA]; · iexact HsA
    isplitl [HsB]; · iexact HsB
    isplitl [HsC]; · iexact HsC
    iexact Hsems
  iexact HW

end Cert.Proof.Lookup

end
-- ==== Proof.Split.lean ====
/-
  How the call's arrays are dealt to the 2 x 16 tiles and gathered again: the table and the index list are read by every
  tile, so each tile gets a share of the whole array; the result is cut into the tiles' chunks, which are disjoint and
  cover it.
-/
module

public import proofs.«01_k».proof.Proof.Tile
public import Idealize.ShloMosaic.Lib.ShareLeaves

@[expose] public section

noncomputable section

namespace Cert.Proof.Lookup

open Cert.KernelIdeal Cert.KernelIdeal.Gen
open Idealize.ShloMosaic
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Cert.Proof.Lanes Cert.Proof.Value

variable {F : FTy → Type} [FloatOps F]

local notation "𝕄" => MM F

/-- The tile of subcore `s` of SparseCore `c`. -/
def tileAt (c : Fin 2) (s : Fin 16) : grid0.Coords :=
  fun | 0 => c | 1 => s | ⟨_ + 2, h⟩ => absurd h (Nat.not_lt.2 (Nat.le_add_left _ _))

/-- Its share of an array that every tile reads. -/
def shareAt (c : Fin 2) (s : Fin 16) : PosShare TreeShare := leaf 4 (leaf 1 fullShare c) s

omit [FloatOps F] in
/-- An array held whole is the tiles' shares of it. -/
theorem dealt (ℓ : Loc nD τ sig) (f : Buf (Elt F) ℓ) :
    (ℓ ↦{fullShare} f : sProp 𝕄) = bigSep Finset.univ fun c : Fin 2 => bigSep Finset.univ fun s : Fin 16 => ℓ ↦{shareAt c s} f :=
  (pointsTo_leaves Finset.univ f 1 fullShare).trans (bigSep_congr fun c _ => pointsTo_leaves Finset.univ f 4 (leaf 1 fullShare c))

/-- The first word of chunk `t` of the tile of subcore `s` of SparseCore `c`, counted in chunks: the tiles of a subcore
    on the two SparseCores are neighbours. -/
theorem first_at (c : Fin 2) (s : Fin 16) (t : Fin k0_t1_loop.trips) :
    10 * first (tileAt c s) t = 20480 * (50 * (2 * s.val + c.val) + t.val) := by
  unfold first
  show 10 * (204800 * s.val + 102400 * c.val + 2048 * t.val) = _
  omega

/-- The words of a chunk. -/
theorem mem_oSet (L : grid0.Coords) (t : Fin k0_t1_loop.trips) (i : S32768000.Idx) :
    i ∈ oSet L t ↔ 10 * first L t ≤ (i 0).val ∧ (i 0).val < 10 * first L t + 20480 := by
  have hle := first_le L t
  constructor
  · intro hi
    obtain ⟨y, -, rfl⟩ := Finset.mem_map.mp hi
    have hy : (y 0).val < 20480 := (y 0).isLt
    rw [oChunk_emb, pos_val _ (by omega)]
    omega
  · rintro ⟨h1, h2⟩
    refine Finset.mem_map.mpr ⟨pos 20480 (by decide) ((i 0).val - 10 * first L t), Finset.mem_univ _, ?_⟩
    rw [oChunk_emb, pos_val _ (by omega)]
    exact (eq_pos _ (by omega)).symm

/-- The chunks, by SparseCore, subcore and number. -/
abbrev piece (p : Fin 2 × Fin 16 × Fin k0_t1_loop.trips) : Finset S32768000.Idx := oSet (tileAt p.1 p.2.1) p.2.2

theorem pieces_disjoint : ∀ p ∈ (Finset.univ : Finset (Fin 2 × Fin 16 × Fin k0_t1_loop.trips)), ∀ p' ∈ (Finset.univ : Finset _),
    p ≠ p' → Disjoint (piece p) (piece p') := by
  rintro ⟨c, s, t⟩ - ⟨c', s', t'⟩ - hne
  refine Finset.disjoint_left.mpr fun i hi hi' => hne ?_
  have h := (mem_oSet _ _ _).mp hi
  have h' := (mem_oSet _ _ _).mp hi'
  rw [first_at] at h h'
  dsimp only at h h'
  have ht : t.val < 50 := chunks_eq ▸ t.isLt
  have ht' : t'.val < 50 := chunks_eq ▸ t'.isLt
  have hc := c.isLt
  have hc' := c'.isLt
  have e1 : c.val = c'.val := by omega
  have e2 : s.val = s'.val := by omega
  have e3 : t.val = t'.val := by omega
  exact Prod.ext (Fin.ext e1) (Prod.ext (Fin.ext e2) (Fin.ext e3))

/-- Every word lies in a chunk. -/
theorem in_piece (i : S32768000.Idx) : ∃ p, i ∈ piece p := by
  have hi : (i 0).val < 32768000 := (i 0).isLt
  generalize hx : (i 0).val = x at hi
  have ht : x / 20480 % 50 < k0_t1_loop.trips := by rw [chunks_eq]; omega
  have hc : x / 20480 / 50 % 2 < 2 := by omega
  have hs : x / 20480 / 50 / 2 < 16 := by omega
  refine ⟨(⟨_, hc⟩, ⟨_, hs⟩, ⟨_, ht⟩), ?_⟩
  rw [mem_oSet, first_at, hx]
  dsimp only
  omega

theorem pieces_cover : (Finset.univ : Finset (Fin 2 × Fin 16 × Fin k0_t1_loop.trips)).biUnion piece = Finset.univ := by
  rw [Finset.eq_univ_iff_forall]
  intro i
  rw [Finset.mem_biUnion]
  obtain ⟨p, hp⟩ := in_piece i
  exact ⟨p, Finset.mem_univ p, hp⟩

/-- The result held whole is the tiles' chunks of it. -/
theorem cut (d : Dev nD) (f : Vec F S32768000 .f32) :
    (oLoc d ↦{fullShare} f : sProp 𝕄)
      = bigSep Finset.univ fun c : Fin 2 => bigSep Finset.univ fun s : Fin 16 => chunksAt d (tileAt c s) f := by
  have h := pointsTo_biUnion (ℓ := oLoc d) (q := fullShare) (f := f) (Ix := HIx 1) (Val := Elt F) (Name := ℕ) (U := UU) (Lvl := ℕ)
    Finset.univ piece pieces_disjoint
  rw [pieces_cover] at h
  refine h.trans ?_
  rw [bigSep_univ_prod]
  refine bigSep_congr fun c _ => ?_
  rw [bigSep_univ_prod]
  rfl

variable (tab : Vec F S170 .f32) (idx : Vec F S3276800 .i32)

/-- What the tiles of SparseCore `c` hold, their chunks of the result at contents `f`. -/
def Core (d : Dev nD) (c : Fin 2) (f : Vec F S32768000 .f32) : sProp 𝕄 :=
  bigSep Finset.univ fun s : Fin 16 => Tile d (tileAt c s) tab idx (shareAt c s) f

/-- The three arrays held whole are what the two SparseCores' tiles hold. -/
theorem deal (d : Dev nD) (f : Vec F S32768000 .f32) :
    iprop((tLoc d ↦{fullShare} tab) ∗ (iLoc d ↦{fullShare} idx) ∗ oLoc d ↦{fullShare} f)
      = (bigSep Finset.univ fun c : Fin 2 => Core tab idx d c f : sProp 𝕄) := by
  unfold Core Tile
  rw [dealt, dealt, cut]
  rw [← bigSep_sep', ← bigSep_sep']
  refine bigSep_congr fun c _ => ?_
  rw [← bigSep_sep', ← bigSep_sep']

end Cert.Proof.Lookup

end
-- ==== Proof.Launch.lean ====
/-
  The run of the whole program: `@main` flattens the index list and the table, starts the lookup on the SparseCores'
  tiles, waits for it, and gives the flat result its three axes. From any launch memory whose index words lie below 17,
  every run ends with the result at the lookup, the arguments as they were, and every semaphore at zero.
-/
module

public import proofs.«01_k».proof.Proof.Split

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.ShloMosaic.StableHlo (held wp_hlo_within reshape_result reshape_result_ne)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Lanes Cert.Proof.Value

variable {F : FTy → Type} [FloatOps F]

local notation "𝕄" => MM F

variable (m : (ℓ : Loc nD τ sig) → Buf (Elt F) ℓ) (ρ : Dev nD → PrngReg)

/-! ## What the run computes -/

/-- The flat table, the flat index list, and the result, from the launch memory. -/
def tabOf (d : Dev nD) : Vec F S170 .f32 := shapeCast S170 (m (a1Loc d)) shapeCasts_S17x10_S170
def idxOf (d : Dev nD) : Vec F S3276800 .i32 := shapeCast S3276800 (m (a0Loc d)) shapeCasts_S16384x200_S3276800
def flatOf (d : Dev nD) : Vec F S32768000 .f32 := lookedAll (tabOf m d) (idxOf m d)
def resOf (d : Dev nD) : Vec F S16384x200x10 .f32 := shapeCast S16384x200x10 (flatOf m d) shapeCasts_S32768000_S16384x200x10

/-- Every index word of the launch memory lies below 17. -/
def PreOK : Prop := ∀ (d : Dev nD) (j : S16384x200.Idx), BitVec.toNat (m (a0Loc d) j) < 17

theorem idx_lt (h : PreOK m) (d : Dev nD) (y : S3276800.Idx) : BitVec.toNat (idxOf m d y) < 17 := h d _

/-! ## What the call carries -/

/-- To and from SparseCore `c`: what its tiles hold; to and from a tile: what it holds; the result first as launched,
    then at the lookup. -/
def P : (K (F := F)).Pay (nD := nD) (Val := Elt F) (Name := ℕ) (U := UU) where
  st := fun q d c => match q with | 0 => Core (tabOf m d) (idxOf m d) d (Fin.cast nCore_zero c) (m (oLoc d))
  dn := fun q d c => match q with | 0 => Core (tabOf m d) (idxOf m d) d (Fin.cast nCore_zero c) (flatOf m d)
  go := fun q d c i => match q with
    | 0 => Tile d (tileAt (Fin.cast nCore_zero c) (Fin.cast nSub_zero i)) (tabOf m d) (idxOf m d)
      (shareAt (Fin.cast nCore_zero c) (Fin.cast nSub_zero i)) (m (oLoc d))
  td := fun q d c i => match q with
    | 0 => Tile d (tileAt (Fin.cast nCore_zero c) (Fin.cast nSub_zero i)) (tabOf m d) (idxOf m d)
      (shareAt (Fin.cast nCore_zero c) (Fin.cast nSub_zero i)) (flatOf m d)
  x := fun _ _ => iprop(emp)

instance tile_storable (d : Dev nD) (L : grid0.Coords) (tab : Vec F S170 .f32) (idx : Vec F S3276800 .i32)
    (q : PosShare TreeShare) (f : Vec F S32768000 .f32) : BI.Storable (upEmb : UEmb _ 𝕄) (Tile d L tab idx q f) := by
  unfold Tile chunksAt chunkAt; infer_instance

instance core_storable (tab : Vec F S170 .f32) (idx : Vec F S3276800 .i32) (d : Dev nD) (c : Fin 2)
    (f : Vec F S32768000 .f32) : BI.Storable (upEmb : UEmb _ 𝕄) (Core tab idx d c f) := by
  unfold Core; infer_instance

instance P_storable : (P (F := F) m).IsStorable where
  st q d c := match q with | 0 => core_storable ..
  dn q d c := match q with | 0 => core_storable ..
  go q d c i := match q with | 0 => tile_storable ..
  td q d c i := match q with | 0 => tile_storable ..

/-- What SparseCore `c` holds is what its tiles hold, one by one as the call numbers them. -/
theorem core_eq (tab : Vec F S170 .f32) (idx : Vec F S3276800 .i32) (d : Dev nD) (c : Fin 2) (f : Vec F S32768000 .f32) :
    (Core tab idx d c f : sProp 𝕄) = bigSep Finset.univ fun i : Fin ((K (F := F)).nSub 0) =>
      Tile d (tileAt c (Fin.cast nSub_zero i)) tab idx (shareAt c (Fin.cast nSub_zero i)) f := by
  have h (Φ : Fin 16 → sProp 𝕄) : bigSep Finset.univ Φ
      = bigSep Finset.univ fun i : Fin ((K (F := F)).nSub 0) => Φ (Fin.cast nSub_zero i) := rfl
  exact h _

omit [FloatOps F] in
/-- What is dealt out whole, and whole again when its parts come back. -/
theorem deal_out {ι : Type} [Fintype ι] {A B : sProp 𝕄} {Φ Ψ : ι → sProp 𝕄} (hA : A = bigSep Finset.univ Φ) (hB : B = bigSep Finset.univ Ψ) :
    A ⊢ |={Set.univ}=> iprop((bigSep Finset.univ Φ) ∗ ((bigSep Finset.univ Ψ) -∗ B)) := by
  subst hA hB
  iintro H; imodintro
  isplitl [H]; · iexact H
  iintro H; iexact H

theorem dn_def (d : Dev nD) (c : Fin ((K (F := F)).nCore 0)) :
    (P m).dn 0 d c = Core (tabOf m d) (idxOf m d) d (Fin.cast nCore_zero c) (flatOf m d) := rfl

theorem td_def (d : Dev nD) (c : Fin ((K (F := F)).nCore 0)) (i : Fin ((K (F := F)).nSub 0)) :
    (P m).td 0 d c i = Tile d (tileAt (Fin.cast nCore_zero c) (Fin.cast nSub_zero i)) (tabOf m d) (idxOf m d)
      (shareAt (Fin.cast nCore_zero c) (Fin.cast nSub_zero i)) (flatOf m d) := rfl

/-- What a SparseCore takes is dealt to its tiles as it is, and what they bring back is what it hands on. -/
theorem vecSplit : (K (F := F)).VecSplit' (P m) 0 := by
  intro d c
  have hs : (P m).st 0 d c = bigSep Finset.univ fun i => (P m).go 0 d c i :=
    core_eq (tabOf m d) (idxOf m d) d (Fin.cast nCore_zero c) (m (oLoc d))
  have hd : (P m).dn 0 d c = bigSep Finset.univ fun i => (P m).td 0 d c i :=
    (dn_def m d c).trans ((core_eq (tabOf m d) (idxOf m d) d (Fin.cast nCore_zero c) (flatOf m d)).trans (bigSep_congr fun i _ => (td_def m d c i).symm))
  exact deal_out hs hd

/-! ## A tile's obligation -/

/-- What a vector subcore's thread runs for the call. -/
theorem defs₀_vector (c : Fin τ.nSC) (s : Fin τ.nSub) :
    defs₀ (F := F) (.scVector c s) 0 ()
      = SparseCore.onTile hcore0 hsub0 (fun c s => cc0__sc_lookup (tileAt c s)
          tV (Memref.isWhole_whole _) iV (Memref.isWhole_whole _) oV (Memref.isWhole_whole _) sT (Memref.isWhole_whole _)
          sI (Memref.isWhole_whole _) sO (Memref.isWhole_whole _) cc0_scoped0 cc0_scoped1 cc0_scoped2) ⟨⟩ c s := rfl

omit [FloatOps F] in
/-- A tile waited on nothing that it may not wait on within the call. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW, HO⟩
  isplitl [HA]; · iexact HA
  isplitl [HB]; · iexact HB
  isplitl [HC]; · iexact HC
  iexists W'
  isplitr; · ipureintro; exact fun p hp => (hW p hp).imp_right .inl
  iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (tileAt ⟨_, hci.1⟩ ⟨_, hci.2⟩) (tabOf m d) (idxOf m d) (m (oLoc d)) _ (idx_lt m hpre d) O W hO).trans
    (wp_mono frame _ _ fun _ => obl_post)

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  have hx : (bigSep Finset.univ fun thr : Thread nD τ => bigSep Finset.univ fun q : Fin 1 => (P (F := F) m).x q thr) = iprop(emp) :=
    (bigSep_congr fun _ _ => bigSep_emp_const _).trans (bigSep_emp_const _)
  rw [hx, show (bigSep Finset.univ fun _ : Dev nD => iprop(emp)) = (iprop(emp) : sProp 𝕄) from bigSep_emp_const _]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## `@main` on the TensorCore -/

abbrev a0' : DevRef τ sig := Proc.devRef .tc main_arg0
abbrev a1' : DevRef τ sig := Proc.devRef .tc main_arg1
abbrev i' : DevRef τ sig := Proc.devRef .tc main_v0
abbrev t' : DevRef τ sig := Proc.devRef .tc main_v1
abbrev o' : DevRef τ sig := Proc.devRef .tc main_v2
abbrev r' : DevRef τ sig := Proc.devRef .tc main_v3

abbrev S6 : Finset (DevRef τ sig) := {a0', a1', i', t', o', r'}

/-- The three operations of `@main` beside the call: a flat index list, a flat table, a result of three axes. -/
abbrev opI : HloOp τ sig (Elt F) := StableHlo.reshape main_arg0 main_v0 (rfl : (.i32 : EltTy) = .i32) shapeCasts_S16384x200_S3276800
abbrev opT : HloOp τ sig (Elt F) := StableHlo.reshape main_arg1 main_v1 (rfl : (.f32 : EltTy) = .f32) shapeCasts_S17x10_S170
abbrev opR : HloOp τ sig (Elt F) := StableHlo.reshape main_v2 main_v3 (rfl : (.f32 : EltTy) = .f32) shapeCasts_S32768000_S16384x200x10

omit [FloatOps F] in
theorem held_eq (d : Dev nD) (W : Valuation τ sig (Elt F)) :
    (held (T d) S6 W : sProp 𝕄)
      = iprop((a0Loc d ↦{fullShare} W a0') ∗ (a1Loc d ↦{fullShare} W a1') ∗ (iLoc d ↦{fullShare} W i')
          ∗ (tLoc d ↦{fullShare} W t') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The contents at launch, before the call, and after it. -/
def atLaunch (d : Dev nD) : Valuation τ sig (Elt F) := fun b => m (d, b)
def beforeCall (d : Dev nD) : Valuation τ sig (Elt F) := (opT (F := F)).result ((opI (F := F)).result (atLaunch m d))
def afterCall (d : Dev nD) : Valuation τ sig (Elt F) := Function.update (beforeCall m d) o' (flatOf m d)

omit [FloatOps F] in
theorem unscoped_held (d : Dev nD) : (unscopedBufs d (fun b => m ((SparseCore.T d).loc b)) : sProp 𝕄) = held (T d) S6 (atLaunch m d) := by
  rw [held_eq]
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]
  rfl

/-- A buffer that neither flattening writes is as launched before the call. -/
theorem before_kept (d : Dev nD) {b : Ref sig .tc} (hi : b ≠ main_v0) (ht : b ≠ main_v1) :
    beforeCall m d (Proc.devRef .tc b) = m ((SparseCore.T d).loc b) :=
  (reshape_result_ne _ _ _ _ _ _ _ ht).trans (reshape_result_ne _ _ _ _ _ _ _ hi)

theorem before_i (d : Dev nD) : beforeCall m d i' = idxOf m d :=
  (reshape_result_ne _ _ _ _ _ _ _ (by decide)).trans (reshape_result ..)

theorem before_t (d : Dev nD) : beforeCall m d t' = tabOf m d := by
  refine (reshape_result ..).trans ?_
  rw [show (opI (F := F)).result (atLaunch m d) (Proc.devRef .tc main_arg1) = m (a1Loc d) from reshape_result_ne _ _ _ _ _ _ _ (by decide)]
  rfl

/-- The six arrays before the call. -/
theorem held_before (d : Dev nD) :
    (held (T d) S6 ((opT (F := F)).result ((opI (F := F)).result (atLaunch m d))) : sProp 𝕄)
      = iprop((a0Loc d ↦{fullShare} m (a0Loc d)) ∗ (a1Loc d ↦{fullShare} m (a1Loc d)) ∗ (iLoc d ↦{fullShare} idxOf m d)
          ∗ (tLoc d ↦{fullShare} tabOf m d) ∗ (oLoc d ↦{fullShare} m (oLoc d)) ∗ rLoc d ↦{fullShare} m (rLoc d)) := by
  rw [held_eq, ← before_i, ← before_t, ← before_kept m d (b := main_arg0) (by decide) (by decide), ← before_kept m d (b := main_arg1) (by decide) (by decide),
    ← before_kept m d (b := main_v2) (by decide) (by decide), ← before_kept m d (b := main_v3) (by decide) (by decide)]
  rfl

/-- The six arrays after the call. -/
theorem held_after (d : Dev nD) :
    (held (T d) S6 (afterCall m d) : sProp 𝕄)
      = iprop((a0Loc d ↦{fullShare} m (a0Loc d)) ∗ (a1Loc d ↦{fullShare} m (a1Loc d)) ∗ (iLoc d ↦{fullShare} idxOf m d)
          ∗ (tLoc d ↦{fullShare} tabOf m d) ∗ (oLoc d ↦{fullShare} flatOf m d) ∗ rLoc d ↦{fullShare} m (rLoc d)) := by
  have hk (b : Ref sig .tc) (hb : b ≠ main_v2) : afterCall m d (Proc.devRef .tc b) = beforeCall m d (Proc.devRef .tc b) :=
    Function.update_of_ne (fun e => hb (Proc.devRef_injective _ e)) _ _
  rw [held_eq, show afterCall m d o' = flatOf m d from Function.update_self .., hk main_arg0 (by decide), hk main_arg1 (by decide),
    hk main_v0 (by decide), hk main_v1 (by decide), hk main_v3 (by decide), before_i, before_t,
    before_kept m d (b := main_arg0) (by decide) (by decide), before_kept m d (b := main_arg1) (by decide) (by decide),
    before_kept m d (b := main_v3) (by decide) (by decide)]

/-- The three-axis result after the last operation is the lookup. -/
theorem after_r (d : Dev nD) : (opR (F := F)).result (afterCall m d) r' = resOf m d := by
  refine (reshape_result ..).trans ?_
  rw [show afterCall m d (Proc.devRef .tc main_v2) = flatOf m d from Function.update_self ..]
  rfl

/-- The arguments after the last operation are as launched. -/
theorem after_kept (d : Dev nD) {b : Ref sig .tc} (hi : b ≠ main_v0) (ht : b ≠ main_v1) (ho : b ≠ main_v2) (hr : b ≠ main_v3) :
    (opR (F := F)).result (afterCall m d) (Proc.devRef .tc b) = m ((SparseCore.T d).loc b) :=
  (reshape_result_ne _ _ _ _ _ _ _ hr).trans
    ((Function.update_of_ne (fun e => ho (Proc.devRef_injective _ e)) _ _).trans (before_kept m d hi ht))

/-- What the call takes and brings back, over both SparseCores. -/
theorem st_eq (d : Dev nD) : (bigSep Finset.univ fun c : Fin ((K (F := F)).nCore 0) => (P m).st 0 d c)
    = iprop((tLoc d ↦{fullShare} tabOf m d) ∗ (iLoc d ↦{fullShare} idxOf m d) ∗ oLoc d ↦{fullShare} m (oLoc d)) :=
  (deal (tabOf m d) (idxOf m d) d (m (oLoc d))).symm
theorem dn_eq (d : Dev nD) : (bigSep Finset.univ fun c : Fin ((K (F := F)).nCore 0) => (P m).dn 0 d c)
    = iprop((tLoc d ↦{fullShare} tabOf m d) ∗ (iLoc d ↦{fullShare} idxOf m d) ∗ oLoc d ↦{fullShare} flatOf m d) :=
  (deal (tabOf m d) (idxOf m d) d (flatOf m d)).symm

theorem opI_sub : (opI (F := F)).bufs ⊆ S6 := show ({a0', i'} : Finset (DevRef τ sig)) ⊆ S6 by decide
theorem opT_sub : (opT (F := F)).bufs ⊆ S6 := show ({a1', t'} : Finset (DevRef τ sig)) ⊆ S6 by decide
theorem opR_sub : (opR (F := F)).bufs ⊆ S6 := show ({o', r'} : Finset (DevRef τ sig)) ⊆ S6 by decide

/-- What `@main` ends with: the arguments as launched, the result at the lookup. -/
abbrev FIN (d : Dev nD) : sProp 𝕄 :=
  iprop((a0Loc d ↦{fullShare} m (a0Loc d)) ∗ (a1Loc d ↦{fullShare} m (a1Loc d)) ∗ rLoc d ↦{fullShare} resOf m d)

/-- `@main` on a device's TensorCore: two flattenings, the call, the result's three axes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opI) (S := S6) opI_sub (V := atLaunch m d)) $$ [Hb Hheld]
  · isplitl [Hb] <;> iassumption
  iintro ⟨Hb, Hheld⟩
  rw [wp_ret]; imodintro
  iapply (wp_hlo_within 𝒱 (SparseCore.T d) none Set.univ (op := opT) (S := S6) opT_sub (V := (opI (F := F)).result (atLaunch m d))) $$ [Hb Hheld]
  · isplitl [Hb] <;> iassumption
  iintro ⟨Hb, Hheld⟩
  rw [wp_ret]; imodintro
  ihave Hh := (Entails.of_eq (held_before m d)) $$ Hheld
  icases Hh with ⟨Ha0, Ha1, Hi, Ht, Ho, Hr⟩
  iapply ((K (F := F)).wp_run (D (F := F)) 𝒱 (EH := EH) (P := P m) κ d 0) $$ [Hst Hi Ht Ho Ha0 Ha1 Hr Hb Hts]
  isplitr; · iexact Hctx
  isplitl [Hst]; · iexact Hst
  isplitl [Hi Ht Ho]
  · rw [st_eq]
    isplitl [Ht]; · iexact Ht
    isplitl [Hi]; · iexact Hi
    iexact Ho
  iintro ⟨Hst, Hdn⟩
  ihave Hdn' := (Entails.of_eq (dn_eq m d)) $$ Hdn
  icases Hdn' with ⟨Ht, Hi, Ho⟩
  iapply (wp_hlo_within 𝒱 (SparseCore.T d) none Set.univ (op := opR) (S := S6) opR_sub (V := afterCall m d)) $$ [Hb Ha0 Ha1 Hi Ht Ho Hr]
  · isplitl [Hb]; · iexact Hb
    rw [held_after]
    isplitl [Ha0]; · iexact Ha0
    isplitl [Ha1]; · iexact Ha1
    isplitl [Hi]; · iexact Hi
    isplitl [Ht]; · iexact Ht
    isplitl [Ho]; · iexact Ho
    iexact Hr
  iintro ⟨Hb, Hheld⟩
  ihave Hh := (Entails.of_eq (held_eq (F := F) d ((opR (F := F)).result (afterCall m d)))) $$ Hheld
  rw [after_r, after_kept m d (b := main_arg0) (by decide) (by decide) (by decide) (by decide),
    after_kept m d (b := main_arg1) (by decide) (by decide) (by decide) (by decide)]
  icases Hh with ⟨Ha0, Ha1, -, -, -, Hr⟩
  rw [wp_ret]; imodintro; imodintro
  isplitl [Hst]; · iexact Hst
  isplitl [Ha0 Ha1 Hr]
  · isplitl [Ha0]; · iexact Ha0
    isplitl [Ha1]; · iexact Ha1
    iexact Hr
  isplitl [Hb] <;> iassumption

/-! ## The run -/

/-- A device's arguments and result in a memory at the end. -/
def fq (d : Dev nD) (s' : Phys nD τ sig (Elt F)) : Prop :=
  s'.mem.mem (a0Loc d) = m (a0Loc d) ∧ s'.mem.mem (a1Loc d) = m (a1Loc d) ∧ s'.mem.mem (rLoc d) = resOf m d

set_option maxRecDepth 16384 in
theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := rLoc d) (I := Finset.univ) (q := fullShare) (f := resOf m d)) $$ [HSI Hr]
  · isplitl [HSI] <;> iassumption
  icases H with %hr
  ipureintro
  exact ⟨funext fun i => h0 i (Finset.mem_univ i), funext fun i => h1 i (Finset.mem_univ i), funext fun i => hr i (Finset.mem_univ i)⟩

/-- What every run ends with, on all devices. -/
def QC : PUnit × MemSt nD τ sig (Elt F) → Prop := fun r =>
  (∀ c : Dev nD, r.2.mem (a0Loc c) = m (a0Loc c) ∧ r.2.mem (a1Loc c) = m (a1Loc c) ∧ r.2.mem (rLoc c) = resOf m c) ∧ r.2.sem = fun _ => 0

/-- From a memory whose index words lie below 17, every run of the program ends with the result at the lookup, the
    arguments as they were and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Pre.lean ====
/-
  The precondition read at one index word: where the printed predicate is one, every word of the index array lies
  below 17 (its value as a natural number, the word's sign being clear).
-/
module

public import proofs.«01_k».proof.Defs
public import proofs.«01_k».proof.Proof.Gen.Pre_in_range
public import Idealize.ShloMosaic.Lib.ReduceAll
public import Idealize.ShloMosaic.Lib.Affine
public import Idealize.ShloMosaic.Lib.WordCmp

@[expose] public section

noncomputable section

namespace Cert.Proof.Pre

open Idealize.ShloMosaic
open Cert.Pre_in_range

/-- A word that compares, as a signed number, at least 0 and less than 17 is a natural number below 17. -/
theorem word_lt {w : BitVec 32} (hge : IntOp.cmpi .sge w 0#32 = 1#1) (hlt : IntOp.cmpi .slt w 17#32 = 1#1) : w.toNat < 17 := by
  have one {p : Prop} [Decidable p] (h : BitVec.ofBool (decide p) = 1#1) : p := by
    by_contra hp
    rw [decide_eq_false hp] at h
    exact absurd h (by decide)
  have h0 := one ((WordCmp.cmpi_sge_eq w 0#32).symm.trans hge)
  have h1 := one ((WordCmp.cmpi_slt_eq w 17#32).symm.trans hlt)
  have e0 : (0#32 : BitVec 32).toInt = 0 := by decide
  have e1 : (17#32 : BitVec 32).toInt = 17 := by decide
  rw [e0] at h0
  rw [e1] at h1
  have hw := w.isLt
  rw [BitVec.toInt_eq_toNat_cond] at h0 h1
  split at h0 <;> omega

/-- Where the precondition is one, every index word lies below 17. -/
theorem words_lt {F : FTy → Type} [FloatOps F] {x : IVec S16384x200 32} {t : FVec F S17x10 .f32}
    (h : fn x t = fun _ => 1#1) (j : S16384x200.Idx) : (x j).toNat < 17 := by
  have e := congrFun h (fun a => a.elim0)
  dsimp only [fn] at e
  haveI : Subsingleton S_.Idx := ⟨fun a b => funext fun i => i.elim0⟩
  obtain ⟨h0, h1⟩ := IntOp.andi_eq_one.mp (Host.reduce_andi_all _ _ _ _ _ e j)
  exact word_lt h0 h1

end Cert.Proof.Pre

end
-- ==== Proof.Reference.lean ====
/-
  The reference's value: where every index word lies below 17 it takes no wrapped index and fills nothing, so the
  result at `(i, j, k)` is column `k` of the table's row `index (i, j)`.
-/
module

public import proofs.«01_k».proof.Defs
public import proofs.«01_k».proof.Proof.Gen.ReferenceIdeal
public import proofs.«01_k».proof.Proof.Gen.ReferenceIdeal.Run
public import Idealize.ShloMosaic.Lib.ReduceAll
public import Idealize.ShloMosaic.Lib.Affine
public import Idealize.ShloMosaic.Lib.WordCmp
public import Idealize.ShloMosaic.Lib.ValueIdxCore
public import Idealize.ShloMosaic.Lib.Pipeline.Value

@[expose] public section

noncomputable section

namespace Cert.Proof.Reference

open Idealize.ShloMosaic Idealize.ShloMosaic.ValueIdx
open Cert.ReferenceIdeal Cert.ReferenceIdeal.Gen
open Idealize.SL.Sem

variable {F : FTy → Type} [FloatOps F]

/-- The coordinates of a position `(i, j, k)` of the result. -/
abbrev row (y : S16384x200x10.Idx) : Fin 16384 := ⟨(y 0).val, (y 0).isLt⟩
abbrev col (y : S16384x200x10.Idx) : Fin 200 := ⟨(y 1).val, (y 1).isLt⟩
abbrev word (y : S16384x200x10.Idx) : Fin 10 := ⟨(y 2).val, (y 2).isLt⟩

/-- The entry of the index array that a position of the result looks up, as an index of the array and of its form with
    a third axis of one word. -/
abbrev entry (y : S16384x200x10.Idx) : S16384x200.Idx := ix2 (row y) (col y)
abbrev entry1 (y : S16384x200x10.Idx) : S16384x200x1.Idx := ix3 (row y) (col y) (0 : Fin 1)

/-- The lookup: column `k` of the table's row `x (i, j)` at position `(i, j, k)`. -/
def rows (x : IVec S16384x200 32) (hx : ∀ j, (x j).toNat < 17) (t : FVec F S17x10 .f32) : FVec F S16384x200x10 .f32 :=
  fun y => t (ix2 ⟨(x (entry y)).toNat, hx _⟩ (word y))

/-- The gather along the table's rows: row `v (i, j, 0)`, signed and held to the table, column `k`. -/
theorem gather_row (t : FVec F S17x10 .f32) (v : IVec S16384x200x1 32) (y : S16384x200x10.Idx) :
    Host.gather gather_S17x10_S16384x200x1_S16384x200x10_2_0_n_n_0_2_110 t v y
      = t (ix2 ⟨min (v (entry1 y)).toInt.toNat 16, by omega⟩ (word y)) := by
  unfold Host.gather
  refine congrArg t (funext fun a => Fin.ext ?_)
  generalize hd : gather_S17x10_S16384x200x1_S16384x200x10_2_0_n_n_0_2_110 = g
  show g.start y v a + g.batchCoord y a + g.offCoord y a = _
  subst hd
  rw [GatherDims.batchCoord_eq_zero _ _ _ List.not_mem_nil]
  have ha : a = (0 : Fin 2) ∨ a = (1 : Fin 2) := by
    match a with
    | ⟨0, _⟩ => exact .inl rfl
    | ⟨1, _⟩ => exact .inr rfl
  rcases ha with rfl | rfl
  · rw [GatherDims.offCoord_eq_zero _ _ _ fun h => ((GatherDims.mem_sKept _ _).mp h).1 (List.mem_singleton.mpr rfl)]
    unfold GatherDims.start
    rw [dif_pos (show (0 : Fin 2) ∈ gather_S17x10_S16384x200x1_S16384x200x10_2_0_n_n_0_2_110.startIndexMap from List.mem_singleton.mpr rfl)]
    have hi (c) : gather_S17x10_S16384x200x1_S16384x200x10_2_0_n_n_0_2_110.siIdx y c = entry1 y := by
      funext b
      refine Fin.ext ?_
      match b with
      | ⟨0, _⟩ => rfl
      | ⟨1, _⟩ => rfl
      | ⟨2, _⟩ => exact Nat.lt_one_iff.mp c.isLt
    rw [hi]
    rfl
  · have hs : gather_S17x10_S16384x200x1_S16384x200x10_2_0_n_n_0_2_110.start y v (1 : Fin 2) = 0 := by
      unfold GatherDims.start
      exact dif_neg (show ¬ (1 : Fin 2) ∈ [(0 : Fin 2)] by decide)
    rw [hs]
    unfold GatherDims.offCoord
    rw [dif_pos ((GatherDims.mem_sKept _ _).mpr ⟨show ¬ (1 : Fin 2) ∈ [(0 : Fin 2)] by decide, List.not_mem_nil⟩)]
    show 0 + 0 + (y 2).val = (y 2).val
    omega

/-- A word below 17 is neither negative nor above 16, as a signed number. -/
theorem word_ok {w : BitVec 32} (h : w.toNat < 17) :
    IntOp.cmpi .slt w 0#32 = 0#1 ∧ IntOp.cmpi .sge w 0#32 = 1#1 ∧ IntOp.cmpi .sle w 16#32 = 1#1 ∧ w.toInt.toNat = w.toNat := by
  have hi : w.toInt = w.toNat := by rw [BitVec.toInt_eq_toNat_cond]; omega
  have e0 : (0#32 : BitVec 32).toInt = 0 := by decide
  have e1 : (16#32 : BitVec 32).toInt = 16 := by decide
  refine ⟨?_, ?_, ?_, by omega⟩
  · rw [WordCmp.cmpi_slt_eq, hi, e0, decide_eq_false (by omega)]; rfl
  · rw [WordCmp.cmpi_sge_eq, hi, e0, decide_eq_true (by omega)]; rfl
  · rw [WordCmp.cmpi_sle_eq, hi, e1, decide_eq_true (by omega)]; rfl

/-- The index array the reference gathers by: negative words wrapped (there are none), a third axis of one word. -/
abbrev wrapped (x : IVec S16384x200 32) : IVec S16384x200x1 32 :=
  broadcastInDim S16384x200x1 ![0, 1] bcast_S16384x200_S16384x200x1_0_1
    (select (cmpi .slt x (broadcastInDim S16384x200 ![] bcast_S_S16384x200 (constantI S_ 32 0#32)))
      (addi x (broadcastInDim S16384x200 ![] bcast_S_S16384x200 (constantI S_ 32 17#32))) x)

theorem wrapped_at (x : IVec S16384x200 32) (hx : ∀ j, (x j).toNat < 17) (i : S16384x200x1.Idx) :
    ∃ j, wrapped x i = x j ∧ ∀ y, i = entry1 y → j = entry y := by
  let j : S16384x200.Idx := ix2 (⟨(i 0).val, (i 0).isLt⟩ : Fin 16384) (⟨(i 1).val, (i 1).isLt⟩ : Fin 200)
  refine ⟨j, ?_, ?_⟩
  · refine (broadcastInDim_apply _ _ _ i j ?_).trans ?_
    · intro a
      match a with
      | ⟨0, _⟩ => rfl
      | ⟨1, _⟩ => rfl
    · show Scalar.select (IntOp.cmpi .slt (x _) 0#32) _ _ = _
      rw [(word_ok (hx _)).1]
      rfl
  · rintro y rfl; rfl

/-- A choice whose mask is one everywhere is its first alternative. -/
theorem unmasked (r : IVec S16384x200 1) (hr : ∀ j, r j = 1#1) (g z : FVec F S16384x200x10 .f32) :
    select (broadcastInDim S16384x200x10 ![0, 1] bcast_S16384x200_S16384x200x10_0_1 r) g z = g := by
  funext y
  have h : broadcastInDim S16384x200x10 ![0, 1] bcast_S16384x200_S16384x200x10_0_1 r y = 1#1 := by
    unfold broadcastInDim; exact hr _
  rw [select_apply, h, select_one]

/-- What the reference's operations compute is the lookup. -/
theorem value (x : IVec S16384x200 32) (hx : ∀ j, (x j).toNat < 17) (t : FVec F S17x10 .f32) (z : FVec F S16384x200x10 .f32) :
    select (broadcastInDim S16384x200x10 ![0, 1] bcast_S16384x200_S16384x200x10_0_1
        (Host.reduce IntOp.andi
          (andi (cmpi .sge (wrapped x) (broadcastInDim S16384x200x1 ![] bcast_S_S16384x200x1 (constantI S_ 32 0#32)))
            (cmpi .sle (wrapped x) (broadcastInDim S16384x200x1 ![0, 1, 2] bcast_S1x1x1_S16384x200x1_0_1_2
              (broadcastInDim S1x1x1 ![2] bcast_S1_S1x1x1_2 (constantI S1 32 16#32)))))
          (constantI S_ 1 1#1) reducesTo_S16384x200x1_S16384x200_d2 h_S_))
      (Host.gather gather_S17x10_S16384x200x1_S16384x200x10_2_0_n_n_0_2_110 t (wrapped x)) z = rows x hx t := by
  have hm (j) : Host.reduce IntOp.andi
      (andi (cmpi .sge (wrapped x) (broadcastInDim S16384x200x1 ![] bcast_S_S16384x200x1 (constantI S_ 32 0#32)))
        (cmpi .sle (wrapped x) (broadcastInDim S16384x200x1 ![0, 1, 2] bcast_S1x1x1_S16384x200x1_0_1_2
          (broadcastInDim S1x1x1 ![2] bcast_S1_S1x1x1_2 (constantI S1 32 16#32)))))
      (constantI S_ 1 1#1) reducesTo_S16384x200x1_S16384x200_d2 h_S_ j = 1#1 := by
    refine Host.reduce_andi_one _ _ _ _ j rfl fun i => ?_
    obtain ⟨j', hj, -⟩ := wrapped_at x hx i
    refine IntOp.andi_eq_one.mpr ⟨?_, ?_⟩
    · show IntOp.cmpi .sge (wrapped x i) 0#32 = 1#1
      rw [hj]; exact (word_ok (hx _)).2.1
    · show IntOp.cmpi .sle (wrapped x i) 16#32 = 1#1
      rw [hj]; exact (word_ok (hx _)).2.2.1
  rw [unmasked _ hm]
  funext y
  rw [gather_row]
  obtain ⟨j, hj, hy⟩ := wrapped_at x hx (entry1 y)
  have hlt := hx (entry y)
  refine congrArg t (congrArg (ix2 · (word y)) (Fin.ext ?_))
  show min (wrapped x (entry1 y)).toInt.toNat 16 = (x (entry y)).toNat
  rw [hj, hy y rfl, (word_ok hlt).2.2.2]
  omega

/-- Lookups of the same indices in the same table are the same. -/
theorem rows_congr {x x' : IVec S16384x200 32} {t t' : FVec F S17x10 .f32} (ex : x = x') (et : t = t')
    (hx : ∀ j, (x j).toNat < 17) (hx' : ∀ j, (x' j).toNat < 17) : rows x hx t = rows x' hx' t' := by
  subst ex et; rfl

/-- From a memory whose index words lie below 17, every run of the reference ends with the lookup, its arguments
    unchanged. -/
theorem run_rows (m : (ℓ : Loc nD τ sig) → Buf (Elt F) ℓ) (ρ : Dev nD → PrngReg)
    (hx : ∀ (c : Dev nD) (j : S16384x200.Idx), BitVec.toNat (m ((c.tc : Thread nD τ).loc main_arg0) j) < 17) :
    θ_run defs (onTc (τ := τ) (main (F := F))) ⟨m, fun _ => 0, ρ⟩ fun r => ∀ c : Dev nD,
      r.2.mem ((c.tc : Thread nD τ).loc main_v0)
        = rows (m ((c.tc : Thread nD τ).loc main_arg0)) (hx c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value _ (hx c) _ _), (h c).2⟩) (Cert.ReferenceIdeal.Value.run m ρ)

end Cert.Proof.Reference

end
-- ==== Proof.Agree.lean ====
/-
  The program's result and the reference's are the same lookup: the flat table's word `10 * r + k` is column `k` of row
  `r`, the flat index list's word `200 * i + j` is the index at `(i, j)`, and position `(i, j, k)` of the result is word
  `10 * (200 * i + j) + k` of the flat result.
-/
module

public import proofs.«01_k».proof.Proof.Value
public import proofs.«01_k».proof.Proof.Reference

@[expose] public section

noncomputable section

namespace Cert.Proof.Agree

open Idealize.ShloMosaic Idealize.ShloMosaic.ValueIdx
open Cert.KernelIdeal
open Cert.Proof.Value Cert.Proof.Reference

variable {α : Type}

/-- A word of the flat table. -/
theorem flat_table (t : S17x10.Idx → α) (h : S17x10.ShapeCasts S170) (r : Fin 17) (k : Fin 10) :
    shapeCast S170 t h (pos 170 (by decide) (r.val * 10 + k.val)) = t (ix2 r k) := by
  refine shapeCast_apply _ _ _ _ ?_
  rw [Shape.rowMajor_val_two, Shape.rowMajor_val_one, pos_val _ (by omega)]
  rfl

/-- A word of the flat index list. -/
theorem flat_index (x : S16384x200.Idx → α) (h : S16384x200.ShapeCasts S3276800) (i : Fin 16384) (j : Fin 200) :
    shapeCast S3276800 x h (pos 3276800 (by decide) (i.val * 200 + j.val)) = x (ix2 i j) := by
  refine shapeCast_apply _ _ _ _ ?_
  rw [Shape.rowMajor_val_two, Shape.rowMajor_val_one, pos_val _ (by omega)]
  rfl

/-- A position of the result, among the words of the flat result. -/
theorem flat_result (f : S32768000.Idx → α) (h : S32768000.ShapeCasts S16384x200x10) (y : S16384x200x10.Idx) :
    shapeCast S16384x200x10 f h y = f (pos 32768000 (by decide) (((row y).val * 200 + (col y).val) * 10 + (word y).val)) := by
  refine shapeCast_apply _ _ _ _ ?_
  have h0 := (row y).isLt
  have h1 := (col y).isLt
  have h2 := (word y).isLt
  rw [Shape.rowMajor_val_three, Shape.rowMajor_val_one, pos_val _ (by omega)]
  show _ = ((y 0).val * 200 + (y 1).val) * 10 + (y 2).val
  rfl

/-- The lookup on the flat arrays, given its three axes, is the lookup of the table's rows. -/
theorem looked_rows {F : FTy → Type} (x : IVec S16384x200 32) (hx : ∀ j, (x j).toNat < 17) (t : FVec F S17x10 .f32)
    (h0 : S16384x200.ShapeCasts S3276800) (h1 : S17x10.ShapeCasts S170) (h2 : S32768000.ShapeCasts S16384x200x10) :
    shapeCast S16384x200x10 (lookedAll (shapeCast S170 t h1) (shapeCast S3276800 x h0)) h2 = rows x hx t := by
  funext y
  rw [flat_result]
  have h0 := (row y).isLt
  have h1 := (col y).isLt
  have h2 := (word y).isLt
  dsimp only [lookedAll, looked]
  rw [pos_val _ (show ((row y).val * 200 + (col y).val) * 10 + (word y).val < 32768000 by omega),
    show (((row y).val * 200 + (col y).val) * 10 + (word y).val) / 10 = (row y).val * 200 + (col y).val by omega,
    show (((row y).val * 200 + (col y).val) * 10 + (word y).val) % 10 = (word y).val by omega, flat_index]
  exact flat_table t _ ⟨_, hx _⟩ (word y)

end Cert.Proof.Agree

end
-- ==== Proof.lean ====
/-
  The five claims. The two frames of the kernel and the value come from one run of its program, stated for any float
  values (`Lookup.run_main`): under the precondition every run ends with the result at the lookup, the arguments as they
  were and every semaphore at zero. The reference's frame and value come from its own run, and under the precondition
  its result is the same lookup (`Reference.value`, `Agree.looked_rows`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Pre
public import proofs.«01_k».proof.Proof.Reference
public import proofs.«01_k».proof.Proof.Agree
public import Idealize.ShloMosaic.Adequacy
public import Idealize.ShloMosaic.Init

@[expose] public section

noncomputable section

namespace Cert.Proof

open Idealize.ShloMosaic Idealize.SL.Sem

/-- The precondition at the launch memory: every index word lies below 17, as the run asks. -/
theorem pre_ok {F : FTy → Type} [FloatOps F] {m : (ℓ : Loc Cert.KernelIdeal.nD Cert.KernelIdeal.τ Cert.KernelIdeal.sig) → Buf (Elt F) ℓ}
    (h : ∀ d, Cert.Pre_in_range.fn (F := F) (m (Lookup.a0Loc d)) (m (Lookup.a1Loc d)) = fun _ => 1#1) : Lookup.PreOK m :=
  fun d j => Pre.words_lt (h d) j

/-- The kernel's result is the lookup of the table's rows. -/
theorem result_rows {F : FTy → Type} [FloatOps F] (m : (ℓ : Loc Cert.KernelIdeal.nD Cert.KernelIdeal.τ Cert.KernelIdeal.sig) → Buf (Elt F) ℓ)
    (h : Lookup.PreOK m) (d : Dev Cert.KernelIdeal.nD) :
    Lookup.resOf m d = Reference.rows (F := F) (m (Lookup.a0Loc d)) (h d) (m (Lookup.a1Loc d)) := by
  unfold Lookup.resOf Lookup.flatOf Lookup.tabOf Lookup.idxOf
  exact Agree.looked_rows (F := F) _ (h d) _ _ _ _

/-- The kernel ends, its arguments unchanged and its semaphores at zero: on bits. -/
theorem frame_kernel : Cert.quiescent_Kernel := fun m ρ h =>
  (θ_run Cert.KernelIdeal.defs _ _).mono (fun _ h => ⟨fun c => ⟨(h.1 c).1, (h.1 c).2.1⟩, h.2⟩)
    (Lookup.run_main (F := Bits) m ρ (pre_ok h))

/-- The kernel ends, its arguments unchanged and its semaphores at zero: on ideal values. -/
theorem frame_ideal : Cert.quiescent_KernelIdeal := fun m ρ h =>
  (θ_run Cert.KernelIdeal.defs _ _).mono (fun _ h => ⟨fun c => ⟨(h.1 c).1, (h.1 c).2.1⟩, h.2⟩)
    (Lookup.run_main (F := Ideal) m ρ (pre_ok h))

/-- The reference ends, its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On ideal values, from the same arguments, the kernel and the reference end with the same result. -/
theorem same_value : Cert.algebraic_KernelIdeal_ReferenceIdeal := by
  intro m ρ m' ρ' hpre hargs
  have hok := pre_ok hpre
  refine ⟨fun c => Lookup.resOf m c, ?_, ?_⟩
  · exact (θ_run Cert.KernelIdeal.defs _ _).mono (fun _ h c => ⟨(h.1 c).2.2, (h.1 c).1, (h.1 c).2.1⟩)
      (Lookup.run_main (F := Ideal) m ρ hok)
  · have hx (c : Dev Cert.ReferenceIdeal.nD) (j : Cert.ReferenceIdeal.S16384x200.Idx) :
        BitVec.toNat (m' ((c.tc : Thread Cert.ReferenceIdeal.nD Cert.ReferenceIdeal.τ).loc Cert.ReferenceIdeal.main_arg0) j) < 17 := by
      rw [(hargs c).1]; exact hok c j
    refine (θ_run Cert.ReferenceIdeal.defs _ _).mono (fun r h c => ⟨(h c).1.trans ?_, (h c).2⟩)
      (Reference.run_rows (F := Ideal) m' ρ' hx)
    exact (Reference.rows_congr (hargs c).1 (hargs c).2 (hx c) (hok c)).trans
      (result_rows m hok c).symm

/-- Every claim of the certificate. -/
theorem claim : Cert.Claim :=
  ⟨Cert.Kernel.Gen.facts, Cert.KernelIdeal.Gen.facts, Cert.ReferenceIdeal.Gen.facts, Cert.Pre_in_range.Gen.facts,
    frame_kernel, frame_ideal, frame_reference, fun m ρ _ => frame_reference m ρ trivial, trivial, same_value⟩

end Cert.Proof

end
